-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_model_and_tokens [hPre_finite_model_and_tokens : Cert.Pre_finite_model_and_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.1 = (fun _ => 1#1)
    ∧ (Cert.Pre_finite_model_and_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_model_and_tokens [hPre_finite_model_and_tokens : Cert.Pre_finite_model_and_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.1 = (fun _ => 1#1)
    ∧ (Cert.Pre_finite_model_and_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_model_and_tokens [hKernelIdeal : Cert.KernelIdeal.Facts] [hPre_finite_model_and_tokens : Cert.Pre_finite_model_and_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_model_and_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_model_and_tokens [hReferenceIdeal : Cert.ReferenceIdeal.Facts] [hPre_finite_model_and_tokens : Cert.Pre_finite_model_and_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_model_and_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E38AA3B#32 (((1 / 8) * (Real.log 2)⁻¹ : ℝ) : EReal)

def algebraic_KernelIdeal_ReferenceIdeal_pre_finite_model_and_tokens [hKernelIdeal : Cert.KernelIdeal.Facts] [hReferenceIdeal : Cert.ReferenceIdeal.Facts] [hPre_finite_model_and_tokens : Cert.Pre_finite_model_and_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_model_and_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_model_and_tokens : Cert.Pre_finite_model_and_tokens.Facts),
    quiescent_Kernel (hKernel := hKernel)
    ∧ quiescent_KernelIdeal (hKernelIdeal := hKernelIdeal)
    ∧ quiescent_KernelIdeal_pre_finite_model_and_tokens (hKernelIdeal := hKernelIdeal) (hPre_finite_model_and_tokens := hPre_finite_model_and_tokens)
    ∧ quiescent_ReferenceIdeal (hReferenceIdeal := hReferenceIdeal)
    ∧ quiescent_ReferenceIdeal_pre_finite_model_and_tokens (hReferenceIdeal := hReferenceIdeal) (hPre_finite_model_and_tokens := hPre_finite_model_and_tokens)
    ∧ preserves_Kernel_KernelIdeal
    ∧ algebraic_KernelIdeal_ReferenceIdeal_pre_finite_model_and_tokens (hKernelIdeal := hKernelIdeal) (hReferenceIdeal := hReferenceIdeal) (hPre_finite_model_and_tokens := hPre_finite_model_and_tokens)
-- ==== Pre_finite_model_and_tokens.lean ====
abbrev S258x512 : Shape := ⟨2, ![258, 512]⟩
abbrev S512x1 : Shape := ⟨2, ![512, 1]⟩
abbrev S512 : Shape := ⟨1, ![512]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x2048x512 : Shape := ⟨3, ![4, 2048, 512]⟩
abbrev S4x2048 : Shape := ⟨2, ![4, 2048]⟩
abbrev S4x512x2048 : Shape := ⟨3, ![4, 512, 2048]⟩
abbrev S4x256 : Shape := ⟨2, ![4, 256]⟩
abbrev S_ : Shape := ⟨0, ![]⟩

class Facts : Prop where
  bcast_S_S258x512 : S_.BroadcastsInDim S258x512 (![] : Fin 0 → Fin S258x512.rank)
  bcast_S_S512x1 : S_.BroadcastsInDim S512x1 (![] : Fin 0 → Fin S512x1.rank)
  bcast_S_S512 : S_.BroadcastsInDim S512 (![] : Fin 0 → Fin S512.rank)
  bcast_S_S4x1536x512 : S_.BroadcastsInDim S4x1536x512 (![] : Fin 0 → Fin S4x1536x512.rank)
  bcast_S_S4x1536 : S_.BroadcastsInDim S4x1536 (![] : Fin 0 → Fin S4x1536.rank)
  bcast_S_S4x512x512 : S_.BroadcastsInDim S4x512x512 (![] : Fin 0 → Fin S4x512x512.rank)
  bcast_S_S4x512 : S_.BroadcastsInDim S4x512 (![] : Fin 0 → Fin S4x512.rank)
  bcast_S_S4x2048x512 : S_.BroadcastsInDim S4x2048x512 (![] : Fin 0 → Fin S4x2048x512.rank)
  bcast_S_S4x2048 : S_.BroadcastsInDim S4x2048 (![] : Fin 0 → Fin S4x2048.rank)
  bcast_S_S4x512x2048 : S_.BroadcastsInDim S4x512x2048 (![] : Fin 0 → Fin S4x512x2048.rank)

variable [Facts]

def fn_part2 {F : FTy → Type} [FloatOps F] (main_arg12 : FVec F S4x2048 .f32) (main_arg13 : FVec F S4x512x2048 .f32) (main_arg14 : FVec F S4x512 .f32) (main_arg16 : IVec S4x2048 32) (main_v2 : IVec S258x512 1) (main_v5 : IVec S512x1 1) (main_v8 : IVec S512 1) (main_v11 : IVec S4x1536x512 1) (main_v14 : IVec S4x1536 1) (main_v17 : IVec S4x512x512 1) (main_v20 : IVec S4x512 1) (main_v23 : IVec S4x512 1) (main_v26 : IVec S4x512 1) (main_v29 : IVec S4x512 1) (main_v32 : IVec S4x512 1) (main_v35 : IVec S4x2048x512 1) : IVec S258x512 1 × IVec S512x1 1 × IVec S512 1 × IVec S4x1536x512 1 × IVec S4x1536 1 × IVec S4x512x512 1 × IVec S4x512 1 × IVec S4x512 1 × IVec S4x512 1 × IVec S4x512 1 × IVec S4x512 1 × IVec S4x2048x512 1 × IVec S4x2048 1 × IVec S4x512x2048 1 × IVec S4x512 1 × IVec S4x2048 1 × IVec S4x2048 1 :=
  let main_v36 : FVec F S4x2048 .f32 := Host.absf main_arg12
  let main_cst_11 : FVec F S_ .f32 := constant S_ .f32 0x7F800000#32
  let main_v37 : FVec F S4x2048 .f32 := broadcastInDim S4x2048 ![] bcast_S_S4x2048 main_cst_11
  let main_v38 : IVec S4x2048 1 := cmpf .olt main_v36 main_v37
  let main_v39 : FVec F S4x512x2048 .f32 := Host.absf main_arg13
  let main_cst_12 : FVec F S_ .f32 := constant S_ .f32 0x7F800000#32
  let main_v40 : FVec F S4x512x2048 .f32 := broadcastInDim S4x512x2048 ![] bcast_S_S4x512x2048 main_cst_12
  let main_v41 : IVec S4x512x2048 1 := cmpf .olt main_v39 main_v40
  let main_v42 : FVec F S4x512 .f32 := Host.absf main_arg14
  let main_cst_13 : FVec F S_ .f32 := constant S_ .f32 0x7F800000#32
  let main_v43 : FVec F S4x512 .f32 := broadcastInDim S4x512 ![] bcast_S_S4x512 main_cst_13
  let main_v44 : IVec S4x512 1 := cmpf .olt main_v42 main_v43
  let main_c : IVec S_ 32 := constantI S_ 32 0#32
  let main_v45 : IVec S4x2048 32 := broadcastInDim S4x2048 ![] bcast_S_S4x2048 main_c
  let main_v46 : IVec S4x2048 1 := cmpi .sge main_arg16 main_v45
  let main_c_14 : IVec S_ 32 := constantI S_ 32 258#32
  let main_v47 : IVec S4x2048 32 := broadcastInDim S4x2048 ![] bcast_S_S4x2048 main_c_14
  let main_v48 : IVec S4x2048 1 := cmpi .slt main_arg16 main_v47
  (main_v2, main_v5, main_v8, main_v11, main_v14, main_v17, main_v20, main_v23, main_v26, main_v29, main_v32, main_v35, main_v38, main_v41, main_v44, main_v46, main_v48)

def fn_part1 {F : FTy → Type} [FloatOps F] (main_arg6 : FVec F S4x512 .f32) (main_arg7 : FVec F S4x512 .f32) (main_arg8 : FVec F S4x512 .f32) (main_arg9 : FVec F S4x512 .f32) (main_arg10 : FVec F S4x512 .f32) (main_arg11 : FVec F S4x2048x512 .f32) (main_arg12 : FVec F S4x2048 .f32) (main_arg13 : FVec F S4x512x2048 .f32) (main_arg14 : FVec F S4x512 .f32) (main_arg16 : IVec S4x2048 32) (main_v2 : IVec S258x512 1) (main_v5 : IVec S512x1 1) (main_v8 : IVec S512 1) (main_v11 : IVec S4x1536x512 1) (main_v14 : IVec S4x1536 1) (main_v17 : IVec S4x512x512 1) : IVec S258x512 1 × IVec S512x1 1 × IVec S512 1 × IVec S4x1536x512 1 × IVec S4x1536 1 × IVec S4x512x512 1 × IVec S4x512 1 × IVec S4x512 1 × IVec S4x512 1 × IVec S4x512 1 × IVec S4x512 1 × IVec S4x2048x512 1 × IVec S4x2048 1 × IVec S4x512x2048 1 × IVec S4x512 1 × IVec S4x2048 1 × IVec S4x2048 1 :=
  let main_v18 : FVec F S4x512 .f32 := Host.absf main_arg6
  let main_cst_5 : FVec F S_ .f32 := constant S_ .f32 0x7F800000#32
  let main_v19 : FVec F S4x512 .f32 := broadcastInDim S4x512 ![] bcast_S_S4x512 main_cst_5
  let main_v20 : IVec S4x512 1 := cmpf .olt main_v18 main_v19
  let main_v21 : FVec F S4x512 .f32 := Host.absf main_arg7
  let main_cst_6 : FVec F S_ .f32 := constant S_ .f32 0x7F800000#32
  let main_v22 : FVec F S4x512 .f32 := broadcastInDim S4x512 ![] bcast_S_S4x512 main_cst_6
  let main_v23 : IVec S4x512 1 := cmpf .olt main_v21 main_v22
  let main_v24 : FVec F S4x512 .f32 := Host.absf main_arg8
  let main_cst_7 : FVec F S_ .f32 := constant S_ .f32 0x7F800000#32
  let main_v25 : FVec F S4x512 .f32 := broadcastInDim S4x512 ![] bcast_S_S4x512 main_cst_7
  let main_v26 : IVec S4x512 1 := cmpf .olt main_v24 main_v25
  let main_v27 : FVec F S4x512 .f32 := Host.absf main_arg9
  let main_cst_8 : FVec F S_ .f32 := constant S_ .f32 0x7F800000#32
  let main_v28 : FVec F S4x512 .f32 := broadcastInDim S4x512 ![] bcast_S_S4x512 main_cst_8
  let main_v29 : IVec S4x512 1 := cmpf .olt main_v27 main_v28
  let main_v30 : FVec F S4x512 .f32 := Host.absf main_arg10
  let main_cst_9 : FVec F S_ .f32 := constant S_ .f32 0x7F800000#32
  let main_v31 : FVec F S4x512 .f32 := broadcastInDim S4x512 ![] bcast_S_S4x512 main_cst_9
  let main_v32 : IVec S4x512 1 := cmpf .olt main_v30 main_v31
  let main_v33 : FVec F S4x2048x512 .f32 := Host.absf main_arg11
  let main_cst_10 : FVec F S_ .f32 := constant S_ .f32 0x7F800000#32
  let main_v34 : FVec F S4x2048x512 .f32 := broadcastInDim S4x2048x512 ![] bcast_S_S4x2048x512 main_cst_10
  let main_v35 : IVec S4x2048x512 1 := cmpf .olt main_v33 main_v34
  fn_part2 (F := F) main_arg12 main_arg13 main_arg14 main_arg16 main_v2 main_v5 main_v8 main_v11 main_v14 main_v17 main_v20 main_v23 main_v26 main_v29 main_v32 main_v35

def fn {F : FTy → Type} [FloatOps F] (main_arg0 : FVec F S258x512 .f32) (main_arg1 : FVec F S512x1 .f32) (main_arg2 : FVec F S512 .f32) (main_arg3 : FVec F S4x1536x512 .f32) (main_arg4 : FVec F S4x1536 .f32) (main_arg5 : FVec F S4x512x512 .f32) (main_arg6 : FVec F S4x512 .f32) (main_arg7 : FVec F S4x512 .f32) (main_arg8 : FVec F S4x512 .f32) (main_arg9 : FVec F S4x512 .f32) (main_arg10 : FVec F S4x512 .f32) (main_arg11 : FVec F S4x2048x512 .f32) (main_arg12 : FVec F S4x2048 .f32) (main_arg13 : FVec F S4x512x2048 .f32) (main_arg14 : FVec F S4x512 .f32) (main_arg15 : FVec F S258x512 .f32) (main_arg16 : IVec S4x2048 32) (main_arg17 : IVec S4x256 32) : IVec S258x512 1 × IVec S512x1 1 × IVec S512 1 × IVec S4x1536x512 1 × IVec S4x1536 1 × IVec S4x512x512 1 × IVec S4x512 1 × IVec S4x512 1 × IVec S4x512 1 × IVec S4x512 1 × IVec S4x512 1 × IVec S4x2048x512 1 × IVec S4x2048 1 × IVec S4x512x2048 1 × IVec S4x512 1 × IVec S4x2048 1 × IVec S4x2048 1 :=
  let main_v0 : FVec F S258x512 .f32 := Host.absf main_arg0
  let main_cst : FVec F S_ .f32 := constant S_ .f32 0x7F800000#32
  let main_v1 : FVec F S258x512 .f32 := broadcastInDim S258x512 ![] bcast_S_S258x512 main_cst
  let main_v2 : IVec S258x512 1 := cmpf .olt main_v0 main_v1
  let main_v3 : FVec F S512x1 .f32 := Host.absf main_arg1
  let main_cst_0 : FVec F S_ .f32 := constant S_ .f32 0x7F800000#32
  let main_v4 : FVec F S512x1 .f32 := broadcastInDim S512x1 ![] bcast_S_S512x1 main_cst_0
  let main_v5 : IVec S512x1 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4x1536x512 .f32 := Host.absf main_arg3
  let main_cst_2 : FVec F S_ .f32 := constant S_ .f32 0x7F800000#32
  let main_v10 : FVec F S4x1536x512 .f32 := broadcastInDim S4x1536x512 ![] bcast_S_S4x1536x512 main_cst_2
  let main_v11 : IVec S4x1536x512 1 := cmpf .olt main_v9 main_v10
  let main_v12 : FVec F S4x1536 .f32 := Host.absf main_arg4
  let main_cst_3 : FVec F S_ .f32 := constant S_ .f32 0x7F800000#32
  let main_v13 : FVec F S4x1536 .f32 := broadcastInDim S4x1536 ![] bcast_S_S4x1536 main_cst_3
  let main_v14 : IVec S4x1536 1 := cmpf .olt main_v12 main_v13
  let main_v15 : FVec F S4x512x512 .f32 := Host.absf main_arg5
  let main_cst_4 : FVec F S_ .f32 := constant S_ .f32 0x7F800000#32
  let main_v16 : FVec F S4x512x512 .f32 := broadcastInDim S4x512x512 ![] bcast_S_S4x512x512 main_cst_4
  let main_v17 : IVec S4x512x512 1 := cmpf .olt main_v15 main_v16
  fn_part1 (F := F) main_arg6 main_arg7 main_arg8 main_arg9 main_arg10 main_arg11 main_arg12 main_arg13 main_arg14 main_arg16 main_v2 main_v5 main_v8 main_v11 main_v14 main_v17
-- ==== Kernel.lean ====
abbrev S258x512 : Shape := ⟨2, ![258, 512]⟩
abbrev S512x1 : Shape := ⟨2, ![512, 1]⟩
abbrev S512 : Shape := ⟨1, ![512]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x2048x512 : Shape := ⟨3, ![4, 2048, 512]⟩
abbrev S4x2048 : Shape := ⟨2, ![4, 2048]⟩
abbrev S4x512x2048 : Shape := ⟨3, ![4, 512, 2048]⟩
abbrev S4x256 : Shape := ⟨2, ![4, 256]⟩
abbrev S4x1 : Shape := ⟨2, ![4, 1]⟩
abbrev S4x2047 : Shape := ⟨2, ![4, 2047]⟩
abbrev S4x2046 : Shape := ⟨2, ![4, 2046]⟩
abbrev S4x2 : Shape := ⟨2, ![4, 2]⟩
abbrev S4x2045 : Shape := ⟨2, ![4, 2045]⟩
abbrev S4x3 : Shape := ⟨2, ![4, 3]⟩
abbrev S4x2044 : Shape := ⟨2, ![4, 2044]⟩
abbrev S4x4 : Shape := ⟨2, ![4, 4]⟩
abbrev S4x2043 : Shape := ⟨2, ![4, 2043]⟩
abbrev S4x5 : Shape := ⟨2, ![4, 5]⟩
abbrev S4x2042 : Shape := ⟨2, ![4, 2042]⟩
abbrev S4x6 : Shape := ⟨2, ![4, 6]⟩
abbrev S4x2041 : Shape := ⟨2, ![4, 2041]⟩
abbrev S4x7 : Shape := ⟨2, ![4, 7]⟩
abbrev S4x2048x1 : Shape := ⟨3, ![4, 2048, 1]⟩
abbrev S1x512 : Shape := ⟨2, ![1, 512]⟩
abbrev S4x1x512 : Shape := ⟨3, ![4, 1, 512]⟩
abbrev S4x1x1536 : Shape := ⟨3, ![4, 1, 1536]⟩
abbrev S4x1x2048 : Shape := ⟨3, ![4, 1, 2048]⟩
abbrev S4x2048x1536 : Shape := ⟨3, ![4, 2048, 1536]⟩
abbrev S1x2048x1 : Shape := ⟨3, ![1, 2048, 1]⟩
abbrev S1x1x512 : Shape := ⟨3, ![1, 1, 512]⟩
abbrev S1x1536x512 : Shape := ⟨3, ![1, 1536, 512]⟩
abbrev S1x1x1536 : Shape := ⟨3, ![1, 1, 1536]⟩
abbrev S1x2048x512 : Shape := ⟨3, ![1, 2048, 512]⟩
abbrev S1x2048x1536 : Shape := ⟨3, ![1, 2048, 1536]⟩
abbrev S2048x1 : Shape := ⟨2, ![2048, 1]⟩
abbrev S2048x258 : Shape := ⟨2, ![2048, 258]⟩
abbrev S2048x512 : Shape := ⟨2, ![2048, 512]⟩
abbrev S1536x512 : Shape := ⟨2, ![1536, 512]⟩
abbrev S1x1536 : Shape := ⟨2, ![1, 1536]⟩
abbrev S2048 : Shape := ⟨1, ![2048]⟩
abbrev S2048x1536 : Shape := ⟨2, ![2048, 1536]⟩
abbrev S1x2048x256 : Shape := ⟨3, ![1, 2048, 256]⟩
abbrev S1x256x2048 : Shape := ⟨3, ![1, 256, 2048]⟩
abbrev S2048x256 : Shape := ⟨2, ![2048, 256]⟩
abbrev S2048x64 : Shape := ⟨2, ![2048, 64]⟩
abbrev S2048x2048 : Shape := ⟨2, ![2048, 2048]⟩
abbrev S1x2048 : Shape := ⟨2, ![1, 2048]⟩
abbrev S64x2048 : Shape := ⟨2, ![64, 2048]⟩
abbrev S1x64x2048 : Shape := ⟨3, ![1, 64, 2048]⟩
abbrev S1x1024x512 : Shape := ⟨3, ![1, 1024, 512]⟩
abbrev S1x512x1024 : Shape := ⟨3, ![1, 512, 1024]⟩
abbrev S1x512x512 : Shape := ⟨3, ![1, 512, 512]⟩
abbrev S1x1x2048 : Shape := ⟨3, ![1, 1, 2048]⟩
abbrev S1x512x2048 : Shape := ⟨3, ![1, 512, 2048]⟩
abbrev S1x1024x1536 : Shape := ⟨3, ![1, 1024, 1536]⟩
abbrev S512x1024 : Shape := ⟨2, ![512, 1024]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩
abbrev S1024x2048 : Shape := ⟨2, ![1024, 2048]⟩
abbrev S512x2048 : Shape := ⟨2, ![512, 2048]⟩
abbrev S1024x1536 : Shape := ⟨2, ![1024, 1536]⟩
abbrev S4x2048x258 : Shape := ⟨3, ![4, 2048, 258]⟩
abbrev S1x1024x258 : Shape := ⟨3, ![1, 1024, 258]⟩
abbrev S1024x258 : Shape := ⟨2, ![1024, 258]⟩

abbrev nBuf : Space → Nat
  | .hbm => 49
  | .vmem => 124
  | .smem => 0
  | _ => 0

abbrev bufTy : (tb : Table) → Fin (tcTables nBuf tb) → BufTy
  | .hbm, ⟨0, _⟩ => ⟨S258x512, .f32⟩
  | .hbm, ⟨1, _⟩ => ⟨S512x1, .f32⟩
  | .hbm, ⟨2, _⟩ => ⟨S512, .f32⟩
  | .hbm, ⟨3, _⟩ => ⟨S4x1536x512, .f32⟩
  | .hbm, ⟨4, _⟩ => ⟨S4x1536, .f32⟩
  | .hbm, ⟨5, _⟩ => ⟨S4x512x512, .f32⟩
  | .hbm, ⟨6, _⟩ => ⟨S4x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S4x2048x512, .f32⟩
  | .hbm, ⟨12, _⟩ => ⟨S4x2048, .f32⟩
  | .hbm, ⟨13, _⟩ => ⟨S4x512x2048, .f32⟩
  | .hbm, ⟨14, _⟩ => ⟨S4x512, .f32⟩
  | .hbm, ⟨15, _⟩ => ⟨S258x512, .f32⟩
  | .hbm, ⟨16, _⟩ => ⟨S4x2048, .i32⟩
  | .hbm, ⟨17, _⟩ => ⟨S4x256, .i32⟩
  | .hbm, ⟨18, _⟩ => ⟨S4x2048, .f32⟩
  | .hbm, ⟨19, _⟩ => ⟨S4x2048x1, .i32⟩
  | .hbm, ⟨20, _⟩ => ⟨S4x2048x1, .f32⟩
  | .hbm, ⟨21, _⟩ => ⟨S1x512, .f32⟩
  | .hbm, ⟨22, _⟩ => ⟨S1x512, .f32⟩
  | .hbm, ⟨23, _⟩ => ⟨S4x1x512, .f32⟩
  | .hbm, ⟨24, _⟩ => ⟨S4x1x512, .f32⟩
  | .hbm, ⟨25, _⟩ => ⟨S4x1x1536, .f32⟩
  | .hbm, ⟨26, _⟩ => ⟨S4x1x512, .f32⟩
  | .hbm, ⟨27, _⟩ => ⟨S4x1x512, .f32⟩
  | .hbm, ⟨28, _⟩ => ⟨S4x1x512, .f32⟩
  | .hbm, ⟨29, _⟩ => ⟨S4x1x2048, .f32⟩
  | .hbm, ⟨30, _⟩ => ⟨S4x1x512, .f32⟩
  | .hbm, ⟨31, _⟩ => ⟨S4x1536x512, .bf16⟩
  | .hbm, ⟨32, _⟩ => ⟨S4x512x512, .bf16⟩
  | .hbm, ⟨33, _⟩ => ⟨S4x2048x512, .bf16⟩
  | .hbm, ⟨34, _⟩ => ⟨S4x512x2048, .bf16⟩
  | .hbm, ⟨35, _⟩ => ⟨S258x512, .bf16⟩
  | .hbm, ⟨36, _⟩ => ⟨S4x2048x512, .f32⟩
  | .hbm, ⟨37, _⟩ => ⟨S4x2048x1536, .bf16⟩
  | .hbm, ⟨38, _⟩ => ⟨S4x512x2048, .bf16⟩
  | .hbm, ⟨39, _⟩ => ⟨S4x2048x512, .f32⟩
  | .hbm, ⟨40, _⟩ => ⟨S4x2048x1536, .bf16⟩
  | .hbm, ⟨41, _⟩ => ⟨S4x512x2048, .bf16⟩
  | .hbm, ⟨42, _⟩ => ⟨S4x2048x512, .f32⟩
  | .hbm, ⟨43, _⟩ => ⟨S4x2048x1536, .bf16⟩
  | .hbm, ⟨44, _⟩ => ⟨S4x512x2048, .bf16⟩
  | .hbm, ⟨45, _⟩ => ⟨S4x2048x512, .f32⟩
  | .hbm, ⟨46, _⟩ => ⟨S4x2048x1536, .bf16⟩
  | .hbm, ⟨47, _⟩ => ⟨S4x512x2048, .bf16⟩
  | .hbm, ⟨48, _⟩ => ⟨S4x2048x258, .f32⟩
  | .local _ .vmem, ⟨0, _⟩ => ⟨S4x2048, .i32⟩
  | .local _ .vmem, ⟨1, _⟩ => ⟨S4x2048, .f32⟩
  | .local _ .vmem, ⟨2, _⟩ => ⟨S1x2048x1, .i32⟩
  | .local _ .vmem, ⟨3, _⟩ => ⟨S1x2048x1, .i32⟩
  | .local _ .vmem, ⟨4, _⟩ => ⟨S1x2048x1, .f32⟩
  | .local _ .vmem, ⟨5, _⟩ => ⟨S1x2048x1, .f32⟩
  | .local _ .vmem, ⟨6, _⟩ => ⟨S258x512, .f32⟩
  | .local _ .vmem, ⟨7, _⟩ => ⟨S1x512, .f32⟩
  | .local _ .vmem, ⟨8, _⟩ => ⟨S1x512, .f32⟩
  | .local _ .vmem, ⟨9, _⟩ => ⟨S1x1x512, .f32⟩
  | .local _ .vmem, ⟨10, _⟩ => ⟨S1x1x512, .f32⟩
  | .local _ .vmem, ⟨11, _⟩ => ⟨S1x1536x512, .bf16⟩
  | .local _ .vmem, ⟨12, _⟩ => ⟨S1x1x1536, .f32⟩
  | .local _ .vmem, ⟨13, _⟩ => ⟨S1x2048x512, .f32⟩
  | .local _ .vmem, ⟨14, _⟩ => ⟨S1x2048x512, .f32⟩
  | .local _ .vmem, ⟨15, _⟩ => ⟨S1x2048x1536, .bf16⟩
  | .local _ .vmem, ⟨16, _⟩ => ⟨S1x2048x1536, .bf16⟩
  | .local _ .vmem, ⟨17, _⟩ => ⟨S1x2048x256, .bf16⟩
  | .local _ .vmem, ⟨18, _⟩ => ⟨S1x2048x256, .bf16⟩
  | .local _ .vmem, ⟨19, _⟩ => ⟨S1x2048x256, .bf16⟩
  | .local _ .vmem, ⟨20, _⟩ => ⟨S1x2048x256, .bf16⟩
  | .local _ .vmem, ⟨21, _⟩ => ⟨S1x2048x256, .bf16⟩
  | .local _ .vmem, ⟨22, _⟩ => ⟨S1x2048x256, .bf16⟩
  | .local _ .vmem, ⟨23, _⟩ => ⟨S1x256x2048, .bf16⟩
  | .local _ .vmem, ⟨24, _⟩ => ⟨S1x256x2048, .bf16⟩
  | .local _ .vmem, ⟨25, _⟩ => ⟨S1x1024x512, .f32⟩
  | .local _ .vmem, ⟨26, _⟩ => ⟨S1x1024x512, .f32⟩
  | .local _ .vmem, ⟨27, _⟩ => ⟨S1x512x1024, .bf16⟩
  | .local _ .vmem, ⟨28, _⟩ => ⟨S1x512x1024, .bf16⟩
  | .local _ .vmem, ⟨29, _⟩ => ⟨S1x512x512, .bf16⟩
  | .local _ .vmem, ⟨30, _⟩ => ⟨S1x1x512, .f32⟩
  | .local _ .vmem, ⟨31, _⟩ => ⟨S1x1x512, .f32⟩
  | .local _ .vmem, ⟨32, _⟩ => ⟨S1x1x512, .f32⟩
  | .local _ .vmem, ⟨33, _⟩ => ⟨S1x2048x512, .bf16⟩
  | .local _ .vmem, ⟨34, _⟩ => ⟨S1x1x2048, .f32⟩
  | .local _ .vmem, ⟨35, _⟩ => ⟨S1x512x2048, .bf16⟩
  | .local _ .vmem, ⟨36, _⟩ => ⟨S1x1x512, .f32⟩
  | .local _ .vmem, ⟨37, _⟩ => ⟨S1x1x512, .f32⟩
  | .local _ .vmem, ⟨38, _⟩ => ⟨S1x1x512, .f32⟩
  | .local _ .vmem, ⟨39, _⟩ => ⟨S1x1536x512, .bf16⟩
  | .local _ .vmem, ⟨40, _⟩ => ⟨S1x1x1536, .f32⟩
  | .local _ .vmem, ⟨41, _⟩ => ⟨S1x1024x512, .f32⟩
  | .local _ .vmem, ⟨42, _⟩ => ⟨S1x1024x512, .f32⟩
  | .local _ .vmem, ⟨43, _⟩ => ⟨S1x1024x1536, .bf16⟩
  | .local _ .vmem, ⟨44, _⟩ => ⟨S1x1024x1536, .bf16⟩
  | .local _ .vmem, ⟨45, _⟩ => ⟨S1x2048x256, .bf16⟩
  | .local _ .vmem, ⟨46, _⟩ => ⟨S1x2048x256, .bf16⟩
  | .local _ .vmem, ⟨47, _⟩ => ⟨S1x2048x256, .bf16⟩
  | .local _ .vmem, ⟨48, _⟩ => ⟨S1x2048x256, .bf16⟩
  | .local _ .vmem, ⟨49, _⟩ => ⟨S1x2048x256, .bf16⟩
  | .local _ .vmem, ⟨50, _⟩ => ⟨S1x2048x256, .bf16⟩
  | .local _ .vmem, ⟨51, _⟩ => ⟨S1x256x2048, .bf16⟩
  | .local _ .vmem, ⟨52, _⟩ => ⟨S1x256x2048, .bf16⟩
  | .local _ .vmem, ⟨53, _⟩ => ⟨S1x1024x512, .f32⟩
  | .local _ .vmem, ⟨54, _⟩ => ⟨S1x1024x512, .f32⟩
  | .local _ .vmem, ⟨55, _⟩ => ⟨S1x512x1024, .bf16⟩
  | .local _ .vmem, ⟨56, _⟩ => ⟨S1x512x1024, .bf16⟩
  | .local _ .vmem, ⟨57, _⟩ => ⟨S1x512x512, .bf16⟩
  | .local _ .vmem, ⟨58, _⟩ => ⟨S1x1x512, .f32⟩
  | .local _ .vmem, ⟨59, _⟩ => ⟨S1x1x512, .f32⟩
  | .local _ .vmem, ⟨60, _⟩ => ⟨S1x1x512, .f32⟩
  | .local _ .vmem, ⟨61, _⟩ => ⟨S1x2048x512, .bf16⟩
  | .local _ .vmem, ⟨62, _⟩ => ⟨S1x1x2048, .f32⟩
  | .local _ .vmem, ⟨63, _⟩ => ⟨S1x512x2048, .bf16⟩
  | .local _ .vmem, ⟨64, _⟩ => ⟨S1x1x512, .f32⟩
  | .local _ .vmem, ⟨65, _⟩ => ⟨S1x1x512, .f32⟩
  | .local _ .vmem, ⟨66, _⟩ => ⟨S1x1x512, .f32⟩
  | .local _ .vmem, ⟨67, _⟩ => ⟨S1x1536x512, .bf16⟩
  | .local _ .vmem, ⟨68, _⟩ => ⟨S1x1x1536, .f32⟩
  | .local _ .vmem, ⟨69, _⟩ => ⟨S1x1024x512, .f32⟩
  | .local _ .vmem, ⟨70, _⟩ => ⟨S1x1024x512, .f32⟩
  | .local _ .vmem, ⟨71, _⟩ => ⟨S1x1024x1536, .bf16⟩
  | .local _ .vmem, ⟨72, _⟩ => ⟨S1x1024x1536, .bf16⟩
  | .local _ .vmem, ⟨73, _⟩ => ⟨S1x2048x256, .bf16⟩
  | .local _ .vmem, ⟨74, _⟩ => ⟨S1x2048x256, .bf16⟩
  | .local _ .vmem, ⟨75, _⟩ => ⟨S1x2048x256, .bf16⟩
  | .local _ .vmem, ⟨76, _⟩ => ⟨S1x2048x256, .bf16⟩
  | .local _ .vmem, ⟨77, _⟩ => ⟨S1x2048x256, .bf16⟩
  | .local _ .vmem, ⟨78, _⟩ => ⟨S1x2048x256, .bf16⟩
  | .local _ .vmem, ⟨79, _⟩ => ⟨S1x256x2048, .bf16⟩
  | .local _ .vmem, ⟨80, _⟩ => ⟨S1x256x2048, .bf16⟩
  | .local _ .vmem, ⟨81, _⟩ => ⟨S1x1024x512, .f32⟩
  | .local _ .vmem, ⟨82, _⟩ => ⟨S1x1024x512, .f32⟩
  | .local _ .vmem, ⟨83, _⟩ => ⟨S1x512x1024, .bf16⟩
  | .local _ .vmem, ⟨84, _⟩ => ⟨S1x512x1024, .bf16⟩
  | .local _ .vmem, ⟨85, _⟩ => ⟨S1x512x512, .bf16⟩
  | .local _ .vmem, ⟨86, _⟩ => ⟨S1x1x512, .f32⟩
  | .local _ .vmem, ⟨87, _⟩ => ⟨S1x1x512, .f32⟩
  | .local _ .vmem, ⟨88, _⟩ => ⟨S1x1x512, .f32⟩
  | .local _ .vmem, ⟨89, _⟩ => ⟨S1x2048x512, .bf16⟩
  | .local _ .vmem, ⟨90, _⟩ => ⟨S1x1x2048, .f32⟩
  | .local _ .vmem, ⟨91, _⟩ => ⟨S1x512x2048, .bf16⟩
  | .local _ .vmem, ⟨92, _⟩ => ⟨S1x1x512, .f32⟩
  | .local _ .vmem, ⟨93, _⟩ => ⟨S1x1x512, .f32⟩
  | .local _ .vmem, ⟨94, _⟩ => ⟨S1x1x512, .f32⟩
  | .local _ .vmem, ⟨95, _⟩ => ⟨S1x1536x512, .bf16⟩
  | .local _ .vmem, ⟨96, _⟩ => ⟨S1x1x1536, .f32⟩
  | .local _ .vmem, ⟨97, _⟩ => ⟨S1x1024x512, .f32⟩
  | .local _ .vmem, ⟨98, _⟩ => ⟨S1x1024x512, .f32⟩
  | .local _ .vmem, ⟨99, _⟩ => ⟨S1x1024x1536, .bf16⟩
  | .local _ .vmem, ⟨100, _⟩ => ⟨S1x1024x1536, .bf16⟩
  | .local _ .vmem, ⟨101, _⟩ => ⟨S1x2048x256, .bf16⟩
  | .local _ .vmem, ⟨102, _⟩ => ⟨S1x2048x256, .bf16⟩
  | .local _ .vmem, ⟨103, _⟩ => ⟨S1x2048x256, .bf16⟩
  | .local _ .vmem, ⟨104, _⟩ => ⟨S1x2048x256, .bf16⟩
  | .local _ .vmem, ⟨105, _⟩ => ⟨S1x2048x256, .bf16⟩
  | .local _ .vmem, ⟨106, _⟩ => ⟨S1x2048x256, .bf16⟩
  | .local _ .vmem, ⟨107, _⟩ => ⟨S1x256x2048, .bf16⟩
  | .local _ .vmem, ⟨108, _⟩ => ⟨S1x256x2048, .bf16⟩
  | .local _ .vmem, ⟨109, _⟩ => ⟨S1x1024x512, .f32⟩
  | .local _ .vmem, ⟨110, _⟩ => ⟨S1x1024x512, .f32⟩
  | .local _ .vmem, ⟨111, _⟩ => ⟨S1x512x1024, .bf16⟩
  | .local _ .vmem, ⟨112, _⟩ => ⟨S1x512x1024, .bf16⟩
  | .local _ .vmem, ⟨113, _⟩ => ⟨S1x512x512, .bf16⟩
  | .local _ .vmem, ⟨114, _⟩ => ⟨S1x1x512, .f32⟩
  | .local _ .vmem, ⟨115, _⟩ => ⟨S1x1x512, .f32⟩
  | .local _ .vmem, ⟨116, _⟩ => ⟨S1x1x512, .f32⟩
  | .local _ .vmem, ⟨117, _⟩ => ⟨S1x2048x512, .bf16⟩
  | .local _ .vmem, ⟨118, _⟩ => ⟨S1x1x2048, .f32⟩
  | .local _ .vmem, ⟨119, _⟩ => ⟨S1x512x2048, .bf16⟩
  | .local _ .vmem, ⟨120, _⟩ => ⟨S1x1x512, .f32⟩
  | .local _ .vmem, ⟨121, _⟩ => ⟨S258x512, .bf16⟩
  | .local _ .vmem, ⟨122, _⟩ => ⟨S1x1024x258, .f32⟩
  | .local _ .vmem, ⟨123, _⟩ => ⟨S1x1024x258, .f32⟩
  | _, _ => ⟨S258x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  ofTc nBuf bufTy 0 124 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v25 : Ref sig .tc := ⟨.hbm, 47, rfl⟩
abbrev main_v26 : Ref sig .tc := ⟨.hbm, 48, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg9_1 : Ref sig .tc := ⟨.vmem, 14, rfl⟩
abbrev cc1_stg10_0 : Ref sig .tc := ⟨.vmem, 15, rfl⟩
abbrev cc1_stg10_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg10_0 : Ref sig .tc := ⟨.vmem, 37, rfl⟩
abbrev cc3_stg11_0 : Ref sig .tc := ⟨.vmem, 38, rfl⟩
abbrev cc3_stg12_0 : Ref sig .tc := ⟨.vmem, 39, rfl⟩
abbrev cc3_stg13_0 : Ref sig .tc := ⟨.vmem, 40, rfl⟩
abbrev cc3_stg14_0 : Ref sig .tc := ⟨.vmem, 41, rfl⟩
abbrev cc3_stg14_1 : Ref sig .tc := ⟨.vmem, 42, rfl⟩
abbrev cc3_stg15_0 : Ref sig .tc := ⟨.vmem, 43, rfl⟩
abbrev cc3_stg15_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg3_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg8_0 : Ref sig .tc := ⟨.vmem, 63, rfl⟩
abbrev cc5_stg9_0 : Ref sig .tc := ⟨.vmem, 64, rfl⟩
abbrev cc5_stg10_0 : Ref sig .tc := ⟨.vmem, 65, rfl⟩
abbrev cc5_stg11_0 : Ref sig .tc := ⟨.vmem, 66, rfl⟩
abbrev cc5_stg12_0 : Ref sig .tc := ⟨.vmem, 67, rfl⟩
abbrev cc5_stg13_0 : Ref sig .tc := ⟨.vmem, 68, rfl⟩
abbrev cc5_stg14_0 : Ref sig .tc := ⟨.vmem, 69, rfl⟩
abbrev cc5_stg14_1 : Ref sig .tc := ⟨.vmem, 70, rfl⟩
abbrev cc5_stg15_0 : Ref sig .tc := ⟨.vmem, 71, rfl⟩
abbrev cc5_stg15_1 : Ref sig .tc := ⟨.vmem, 72, rfl⟩
abbrev cc6_stg0_0 : Ref sig .tc := ⟨.vmem, 73, rfl⟩
abbrev cc6_stg0_1 : Ref sig .tc := ⟨.vmem, 74, rfl⟩
abbrev cc6_stg1_0 : Ref sig .tc := ⟨.vmem, 75, rfl⟩
abbrev cc6_stg1_1 : Ref sig .tc := ⟨.vmem, 76, rfl⟩
abbrev cc6_stg2_0 : Ref sig .tc := ⟨.vmem, 77, rfl⟩
abbrev cc6_stg2_1 : Ref sig .tc := ⟨.vmem, 78, rfl⟩
abbrev cc6_stg3_0 : Ref sig .tc := ⟨.vmem, 79, rfl⟩
abbrev cc6_stg3_1 : Ref sig .tc := ⟨.vmem, 80, rfl⟩
abbrev cc7_stg0_0 : Ref sig .tc := ⟨.vmem, 81, rfl⟩
abbrev cc7_stg0_1 : Ref sig .tc := ⟨.vmem, 82, rfl⟩
abbrev cc7_stg1_0 : Ref sig .tc := ⟨.vmem, 83, rfl⟩
abbrev cc7_stg1_1 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg6_0 : Ref sig .tc := ⟨.vmem, 89, rfl⟩
abbrev cc7_stg7_0 : Ref sig .tc := ⟨.vmem, 90, rfl⟩
abbrev cc7_stg8_0 : Ref sig .tc := ⟨.vmem, 91, rfl⟩
abbrev cc7_stg9_0 : Ref sig .tc := ⟨.vmem, 92, rfl⟩
abbrev cc7_stg10_0 : Ref sig .tc := ⟨.vmem, 93, rfl⟩
abbrev cc7_stg11_0 : Ref sig .tc := ⟨.vmem, 94, rfl⟩
abbrev cc7_stg12_0 : Ref sig .tc := ⟨.vmem, 95, rfl⟩
abbrev cc7_stg13_0 : Ref sig .tc := ⟨.vmem, 96, rfl⟩
abbrev cc7_stg14_0 : Ref sig .tc := ⟨.vmem, 97, rfl⟩
abbrev cc7_stg14_1 : Ref sig .tc := ⟨.vmem, 98, rfl⟩
abbrev cc7_stg15_0 : Ref sig .tc := ⟨.vmem, 99, rfl⟩
abbrev cc7_stg15_1 : Ref sig .tc := ⟨.vmem, 100, rfl⟩
abbrev cc8_stg0_0 : Ref sig .tc := ⟨.vmem, 101, rfl⟩
abbrev cc8_stg0_1 : Ref sig .tc := ⟨.vmem, 102, rfl⟩
abbrev cc8_stg1_0 : Ref sig .tc := ⟨.vmem, 103, rfl⟩
abbrev cc8_stg1_1 : Ref sig .tc := ⟨.vmem, 104, rfl⟩
abbrev cc8_stg2_0 : Ref sig .tc := ⟨.vmem, 105, rfl⟩
abbrev cc8_stg2_1 : Ref sig .tc := ⟨.vmem, 106, rfl⟩
abbrev cc8_stg3_0 : Ref sig .tc := ⟨.vmem, 107, rfl⟩
abbrev cc8_stg3_1 : Ref sig .tc := ⟨.vmem, 108, rfl⟩
abbrev cc9_stg0_0 : Ref sig .tc := ⟨.vmem, 109, rfl⟩
abbrev cc9_stg0_1 : Ref sig .tc := ⟨.vmem, 110, rfl⟩
abbrev cc9_stg1_0 : Ref sig .tc := ⟨.vmem, 111, rfl⟩
abbrev cc9_stg1_1 : Ref sig .tc := ⟨.vmem, 112, rfl⟩
abbrev cc9_stg2_0 : Ref sig .tc := ⟨.vmem, 113, rfl⟩
abbrev cc9_stg3_0 : Ref sig .tc := ⟨.vmem, 114, rfl⟩
abbrev cc9_stg4_0 : Ref sig .tc := ⟨.vmem, 115, rfl⟩
abbrev cc9_stg5_0 : Ref sig .tc := ⟨.vmem, 116, rfl⟩
abbrev cc9_stg6_0 : Ref sig .tc := ⟨.vmem, 117, rfl⟩
abbrev cc9_stg7_0 : Ref sig .tc := ⟨.vmem, 118, rfl⟩
abbrev cc9_stg8_0 : Ref sig .tc := ⟨.vmem, 119, rfl⟩
abbrev cc9_stg9_0 : Ref sig .tc := ⟨.vmem, 120, rfl⟩
abbrev cc9_stg10_0 : Ref sig .tc := ⟨.vmem, 121, rfl⟩
abbrev cc9_stg11_0 : Ref sig .tc := ⟨.vmem, 122, rfl⟩
abbrev cc9_stg11_1 : Ref sig .tc := ⟨.vmem, 123, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem9_1 : DmaSem sig := 14
abbrev cc1_sem10_0 : DmaSem sig := 15
abbrev cc1_sem10_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37
abbrev cc3_sem11_0 : DmaSem sig := 38
abbrev cc3_sem12_0 : DmaSem sig := 39
abbrev cc3_sem13_0 : DmaSem sig := 40
abbrev cc3_sem14_0 : DmaSem sig := 41
abbrev cc3_sem14_1 : DmaSem sig := 42
abbrev cc3_sem15_0 : DmaSem sig := 43
abbrev cc3_sem15_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem3_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem6_0 : DmaSem sig := 61
abbrev cc5_sem7_0 : DmaSem sig := 62
abbrev cc5_sem8_0 : DmaSem sig := 63
abbrev cc5_sem9_0 : DmaSem sig := 64
abbrev cc5_sem10_0 : DmaSem sig := 65
abbrev cc5_sem11_0 : DmaSem sig := 66
abbrev cc5_sem12_0 : DmaSem sig := 67
abbrev cc5_sem13_0 : DmaSem sig := 68
abbrev cc5_sem14_0 : DmaSem sig := 69
abbrev cc5_sem14_1 : DmaSem sig := 70
abbrev cc5_sem15_0 : DmaSem sig := 71
abbrev cc5_sem15_1 : DmaSem sig := 72
abbrev cc6_sem0_0 : DmaSem sig := 73
abbrev cc6_sem0_1 : DmaSem sig := 74
abbrev cc6_sem1_0 : DmaSem sig := 75
abbrev cc6_sem1_1 : DmaSem sig := 76
abbrev cc6_sem2_0 : DmaSem sig := 77
abbrev cc6_sem2_1 : DmaSem sig := 78
abbrev cc6_sem3_0 : DmaSem sig := 79
abbrev cc6_sem3_1 : DmaSem sig := 80
abbrev cc7_sem0_0 : DmaSem sig := 81
abbrev cc7_sem0_1 : DmaSem sig := 82
abbrev cc7_sem1_0 : DmaSem sig := 83
abbrev cc7_sem1_1 : DmaSem sig := 84
abbrev cc7_sem2_0 : DmaSem sig := 85
abbrev cc7_sem3_0 : DmaSem sig := 86
abbrev cc7_sem4_0 : DmaSem sig := 87
abbrev cc7_sem5_0 : DmaSem sig := 88
abbrev cc7_sem6_0 : DmaSem sig := 89
abbrev cc7_sem7_0 : DmaSem sig := 90
abbrev cc7_sem8_0 : DmaSem sig := 91
abbrev cc7_sem9_0 : DmaSem sig := 92
abbrev cc7_sem10_0 : DmaSem sig := 93
abbrev cc7_sem11_0 : DmaSem sig := 94
abbrev cc7_sem12_0 : DmaSem sig := 95
abbrev cc7_sem13_0 : DmaSem sig := 96
abbrev cc7_sem14_0 : DmaSem sig := 97
abbrev cc7_sem14_1 : DmaSem sig := 98
abbrev cc7_sem15_0 : DmaSem sig := 99
abbrev cc7_sem15_1 : DmaSem sig := 100
abbrev cc8_sem0_0 : DmaSem sig := 101
abbrev cc8_sem0_1 : DmaSem sig := 102
abbrev cc8_sem1_0 : DmaSem sig := 103
abbrev cc8_sem1_1 : DmaSem sig := 104
abbrev cc8_sem2_0 : DmaSem sig := 105
abbrev cc8_sem2_1 : DmaSem sig := 106
abbrev cc8_sem3_0 : DmaSem sig := 107
abbrev cc8_sem3_1 : DmaSem sig := 108
abbrev cc9_sem0_0 : DmaSem sig := 109
abbrev cc9_sem0_1 : DmaSem sig := 110
abbrev cc9_sem1_0 : DmaSem sig := 111
abbrev cc9_sem1_1 : DmaSem sig := 112
abbrev cc9_sem2_0 : DmaSem sig := 113
abbrev cc9_sem3_0 : DmaSem sig := 114
abbrev cc9_sem4_0 : DmaSem sig := 115
abbrev cc9_sem5_0 : DmaSem sig := 116
abbrev cc9_sem6_0 : DmaSem sig := 117
abbrev cc9_sem7_0 : DmaSem sig := 118
abbrev cc9_sem8_0 : DmaSem sig := 119
abbrev cc9_sem9_0 : DmaSem sig := 120
abbrev cc9_sem10_0 : DmaSem sig := 121
abbrev cc9_sem11_0 : DmaSem sig := 122
abbrev cc9_sem11_1 : DmaSem sig := 123

abbrev nD : Nat := 1
abbrev τ : Topo := Topo.v7x

variable {F : FTy → Type} [FloatOps F]

abbrev grid0 : Pipeline.Grid := .none

abbrev stage0_0 : Fin 1 → Memref sig .tc .vmem S4x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S258x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1536x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1x1536 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x2048x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x2048x1536 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![8], ![false]⟩

def k2_mult1 : BitVec 32 :=
  let c0_i32 : BitVec 32 := 0#32
  let c2048_i32 : BitVec 32 := 2048#32
  let v4 : BitVec 32 := Scalar.muli c0_i32 c2048_i32
  v4
def k2_off1 : Fin 3 → Nat :=
  let c0_5 : Index := 0#32
  let c0_i32 : BitVec 32 := 0#32
  let c2048_i32 : BitVec 32 := 2048#32
  let v4 : BitVec 32 := Scalar.muli c0_i32 c2048_i32
  let v5 : BitVec 32 := v4
  let v6 : Index := Scalar.indexCast v5
  let c0_6 : Index := 0#32
  ![0, v6.toNat, 0]
def k2_off2 : Fin 3 → Nat :=
  let c0_10 : Index := 0#32
  let c0_11 : Index := 0#32
  let c0_i32 : BitVec 32 := 0#32
  let c2048_i32 : BitVec 32 := 2048#32
  let v4 : BitVec 32 := Scalar.muli c0_i32 c2048_i32
  let v5 : BitVec 32 := v4
  let v23 : Index := Scalar.indexCast v5
  ![0, 0, v23.toNat]
def k2_off3 : Fin 3 → Nat :=
  let c0_16 : Index := 0#32
  let c64 : Index := 64#32
  let c0_i32 : BitVec 32 := 0#32
  let c2048_i32 : BitVec 32 := 2048#32
  let v4 : BitVec 32 := Scalar.muli c0_i32 c2048_i32
  let v5 : BitVec 32 := v4
  let v41 : Index := Scalar.indexCast v5
  ![0, 64, v41.toNat]
def k2_off4 : Fin 3 → Nat :=
  let c0_21 : Index := 0#32
  let c128 : Index := 128#32
  let c0_i32 : BitVec 32 := 0#32
  let c2048_i32 : BitVec 32 := 2048#32
  let v4 : BitVec 32 := Scalar.muli c0_i32 c2048_i32
  let v5 : BitVec 32 := v4
  let v59 : Index := Scalar.indexCast v5
  ![0, 128, v59.toNat]
def k2_off5 : Fin 3 → Nat :=
  let c0_26 : Index := 0#32
  let c192 : Index := 192#32
  let c0_i32 : BitVec 32 := 0#32
  let c2048_i32 : BitVec 32 := 2048#32
  let v4 : BitVec 32 := Scalar.muli c0_i32 c2048_i32
  let v5 : BitVec 32 := v4
  let v77 : Index := Scalar.indexCast v5
  ![0, 192, v77.toNat]
def cc2_transform_0 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_1 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  ![v16.toNat, c0_i32_11.toNat, v27.toNat]

def cc2_transform_2 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  let c0_i32_11 : BitVec 32 := 0#32
  ![v16.toNat, c0_i32_10.toNat, v27.toNat]

def cc2_transform_3 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage2_0 : Fin 2 → Memref sig .tc .vmem S1x2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_10 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_11 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_12 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_13 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_14 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_15 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x512x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x2048x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x1x2048 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x512x2048 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x1x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x1x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S1x1x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S1x1536x512 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x1x1536 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 2 → Memref sig .tc .vmem S1x1024x512 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]

abbrev stage3_15 : Fin 2 → Memref sig .tc .vmem S1x1024x1536 .bf16 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true, true]

abbrev grid4 : Pipeline.Grid := ⟨1, ![8], ![false]⟩

def k4_mult1 : BitVec 32 :=
  let c0_i32 : BitVec 32 := 0#32
  let c2048_i32 : BitVec 32 := 2048#32
  let v4 : BitVec 32 := Scalar.muli c0_i32 c2048_i32
  v4
def k4_off1 : Fin 3 → Nat :=
  let c0_5 : Index := 0#32
  let c0_i32 : BitVec 32 := 0#32
  let c2048_i32 : BitVec 32 := 2048#32
  let v4 : BitVec 32 := Scalar.muli c0_i32 c2048_i32
  let v5 : BitVec 32 := v4
  let v6 : Index := Scalar.indexCast v5
  let c0_6 : Index := 0#32
  ![0, v6.toNat, 0]
def k4_off2 : Fin 3 → Nat :=
  let c0_10 : Index := 0#32
  let c0_11 : Index := 0#32
  let c0_i32 : BitVec 32 := 0#32
  let c2048_i32 : BitVec 32 := 2048#32
  let v4 : BitVec 32 := Scalar.muli c0_i32 c2048_i32
  let v5 : BitVec 32 := v4
  let v23 : Index := Scalar.indexCast v5
  ![0, 0, v23.toNat]
def k4_off3 : Fin 3 → Nat :=
  let c0_16 : Index := 0#32
  let c64 : Index := 64#32
  let c0_i32 : BitVec 32 := 0#32
  let c2048_i32 : BitVec 32 := 2048#32
  let v4 : BitVec 32 := Scalar.muli c0_i32 c2048_i32
  let v5 : BitVec 32 := v4
  let v41 : Index := Scalar.indexCast v5
  ![0, 64, v41.toNat]
def k4_off4 : Fin 3 → Nat :=
  let c0_21 : Index := 0#32
  let c128 : Index := 128#32
  let c0_i32 : BitVec 32 := 0#32
  let c2048_i32 : BitVec 32 := 2048#32
  let v4 : BitVec 32 := Scalar.muli c0_i32 c2048_i32
  let v5 : BitVec 32 := v4
  let v59 : Index := Scalar.indexCast v5
  ![0, 128, v59.toNat]
def k4_off5 : Fin 3 → Nat :=
  let c0_26 : Index := 0#32
  let c192 : Index := 192#32
  let c0_i32 : BitVec 32 := 0#32
  let c2048_i32 : BitVec 32 := 2048#32
  let v4 : BitVec 32 := Scalar.muli c0_i32 c2048_i32
  let v5 : BitVec 32 := v4
  let v77 : Index := Scalar.indexCast v5
  ![0, 192, v77.toNat]
def cc4_transform_0 (i : grid4.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc4_transform_1 (i : grid4.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  ![v16.toNat, c0_i32_11.toNat, v27.toNat]

def cc4_transform_2 (i : grid4.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  let c0_i32_11 : BitVec 32 := 0#32
  ![v16.toNat, c0_i32_10.toNat, v27.toNat]

def cc4_transform_3 (i : grid4.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage4_0 : Fin 2 → Memref sig .tc .vmem S1x2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x256x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![4, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_8 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_9 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_10 (i : grid5.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_11 (i : grid5.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_12 (i : grid5.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_13 (i : grid5.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_14 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_15 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x512x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S1x512x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S1x2048x512 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S1x1x2048 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 1 → Memref sig .tc .vmem S1x512x2048 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false, false]

abbrev stage5_9 : Fin 1 → Memref sig .tc .vmem S1x1x512 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false, false]

abbrev stage5_10 : Fin 1 → Memref sig .tc .vmem S1x1x512 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false, false]

abbrev stage5_11 : Fin 1 → Memref sig .tc .vmem S1x1x512 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false, false]

abbrev stage5_12 : Fin 1 → Memref sig .tc .vmem S1x1536x512 .bf16 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false, false]

abbrev stage5_13 : Fin 1 → Memref sig .tc .vmem S1x1x1536 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false, false]

abbrev stage5_14 : Fin 2 → Memref sig .tc .vmem S1x1024x512 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true, true]

abbrev stage5_15 : Fin 2 → Memref sig .tc .vmem S1x1024x1536 .bf16 := fun | 0 => Memref.whole cc5_stg15_0 | 1 => Memref.whole cc5_stg15_1 | ⟨_ + 2, h⟩ => absurd h (Nat.not_lt.2 (Nat.le_add_left _ _))
abbrev sem5_15 : Fin 2 → DmaSem sig := fun | 0 => cc5_sem15_0 | 1 => cc5_sem15_1 | ⟨_ + 2, h⟩ => absurd h (Nat.not_lt.2 (Nat.le_add_left _ _))
abbrev reads5_15 : Fin grid5.rank → Bool := ![true, true]

abbrev grid6 : Pipeline.Grid := ⟨1, ![8], ![false]⟩

def k6_mult1 : BitVec 32 :=
  let c0_i32 : BitVec 32 := 0#32
  let c2048_i32 : BitVec 32 := 2048#32
  let v4 : BitVec 32 := Scalar.muli c0_i32 c2048_i32
  v4
def k6_off1 : Fin 3 → Nat :=
  let c0_5 : Index := 0#32
  let c0_i32 : BitVec 32 := 0#32
  let c2048_i32 : BitVec 32 := 2048#32
  let v4 : BitVec 32 := Scalar.muli c0_i32 c2048_i32
  let v5 : BitVec 32 := v4
  let v6 : Index := Scalar.indexCast v5
  let c0_6 : Index := 0#32
  ![0, v6.toNat, 0]
def k6_off2 : Fin 3 → Nat :=
  let c0_10 : Index := 0#32
  let c0_11 : Index := 0#32
  let c0_i32 : BitVec 32 := 0#32
  let c2048_i32 : BitVec 32 := 2048#32
  let v4 : BitVec 32 := Scalar.muli c0_i32 c2048_i32
  let v5 : BitVec 32 := v4
  let v23 : Index := Scalar.indexCast v5
  ![0, 0, v23.toNat]
def k6_off3 : Fin 3 → Nat :=
  let c0_16 : Index := 0#32
  let c64 : Index := 64#32
  let c0_i32 : BitVec 32 := 0#32
  let c2048_i32 : BitVec 32 := 2048#32
  let v4 : BitVec 32 := Scalar.muli c0_i32 c2048_i32
  let v5 : BitVec 32 := v4
  let v41 : Index := Scalar.indexCast v5
  ![0, 64, v41.toNat]
def k6_off4 : Fin 3 → Nat :=
  let c0_21 : Index := 0#32
  let c128 : Index := 128#32
  let c0_i32 : BitVec 32 := 0#32
  let c2048_i32 : BitVec 32 := 2048#32
  let v4 : BitVec 32 := Scalar.muli c0_i32 c2048_i32
  let v5 : BitVec 32 := v4
  let v59 : Index := Scalar.indexCast v5
  ![0, 128, v59.toNat]
def k6_off5 : Fin 3 → Nat :=
  let c0_26 : Index := 0#32
  let c192 : Index := 192#32
  let c0_i32 : BitVec 32 := 0#32
  let c2048_i32 : BitVec 32 := 2048#32
  let v4 : BitVec 32 := Scalar.muli c0_i32 c2048_i32
  let v5 : BitVec 32 := v4
  let v77 : Index := Scalar.indexCast v5
  ![0, 192, v77.toNat]
def cc6_transform_0 (i : grid6.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc6_transform_1 (i : grid6.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  ![v16.toNat, c0_i32_11.toNat, v27.toNat]

def cc6_transform_2 (i : grid6.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  let c0_i32_11 : BitVec 32 := 0#32
  ![v16.toNat, c0_i32_10.toNat, v27.toNat]

def cc6_transform_3 (i : grid6.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage6_0 : Fin 2 → Memref sig .tc .vmem S1x2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x2048x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x2048x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x256x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![4, 2], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_2 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_5 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_6 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_7 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_8 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_9 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_10 (i : grid7.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_11 (i : grid7.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_12 (i : grid7.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_13 (i : grid7.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_14 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_15 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S1x1024x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x512x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S1x512x512 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S1x1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S1x1x512 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 1 → Memref sig .tc .vmem S1x2048x512 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev stage7_7 : Fin 1 → Memref sig .tc .vmem S1x1x2048 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false, false]

abbrev stage7_8 : Fin 1 → Memref sig .tc .vmem S1x512x2048 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false, false]

abbrev stage7_9 : Fin 1 → Memref sig .tc .vmem S1x1x512 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false, false]

abbrev stage7_10 : Fin 1 → Memref sig .tc .vmem S1x1x512 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false, false]

abbrev stage7_11 : Fin 1 → Memref sig .tc .vmem S1x1x512 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false, false]

abbrev stage7_12 : Fin 1 → Memref sig .tc .vmem S1x1536x512 .bf16 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false, false]

abbrev stage7_13 : Fin 1 → Memref sig .tc .vmem S1x1x1536 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false, false]

abbrev stage7_14 : Fin 2 → Memref sig .tc .vmem S1x1024x512 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true, true]

abbrev stage7_15 : Fin 2 → Memref sig .tc .vmem S1x1024x1536 .bf16 := fun | 0 => Memref.whole cc7_stg15_0 | 1 => Memref.whole cc7_stg15_1 | ⟨_ + 2, h⟩ => absurd h (Nat.not_lt.2 (Nat.le_add_left _ _))
abbrev sem7_15 : Fin 2 → DmaSem sig := fun | 0 => cc7_sem15_0 | 1 => cc7_sem15_1 | ⟨_ + 2, h⟩ => absurd h (Nat.not_lt.2 (Nat.le_add_left _ _))
abbrev reads7_15 : Fin grid7.rank → Bool := ![true, true]

abbrev grid8 : Pipeline.Grid := ⟨1, ![8], ![false]⟩

def k8_mult1 : BitVec 32 :=
  let c0_i32 : BitVec 32 := 0#32
  let c2048_i32 : BitVec 32 := 2048#32
  let v4 : BitVec 32 := Scalar.muli c0_i32 c2048_i32
  v4
def k8_off1 : Fin 3 → Nat :=
  let c0_5 : Index := 0#32
  let c0_i32 : BitVec 32 := 0#32
  let c2048_i32 : BitVec 32 := 2048#32
  let v4 : BitVec 32 := Scalar.muli c0_i32 c2048_i32
  let v5 : BitVec 32 := v4
  let v6 : Index := Scalar.indexCast v5
  let c0_6 : Index := 0#32
  ![0, v6.toNat, 0]
def k8_off2 : Fin 3 → Nat :=
  let c0_10 : Index := 0#32
  let c0_11 : Index := 0#32
  let c0_i32 : BitVec 32 := 0#32
  let c2048_i32 : BitVec 32 := 2048#32
  let v4 : BitVec 32 := Scalar.muli c0_i32 c2048_i32
  let v5 : BitVec 32 := v4
  let v23 : Index := Scalar.indexCast v5
  ![0, 0, v23.toNat]
def k8_off3 : Fin 3 → Nat :=
  let c0_16 : Index := 0#32
  let c64 : Index := 64#32
  let c0_i32 : BitVec 32 := 0#32
  let c2048_i32 : BitVec 32 := 2048#32
  let v4 : BitVec 32 := Scalar.muli c0_i32 c2048_i32
  let v5 : BitVec 32 := v4
  let v41 : Index := Scalar.indexCast v5
  ![0, 64, v41.toNat]
def k8_off4 : Fin 3 → Nat :=
  let c0_21 : Index := 0#32
  let c128 : Index := 128#32
  let c0_i32 : BitVec 32 := 0#32
  let c2048_i32 : BitVec 32 := 2048#32
  let v4 : BitVec 32 := Scalar.muli c0_i32 c2048_i32
  let v5 : BitVec 32 := v4
  let v59 : Index := Scalar.indexCast v5
  ![0, 128, v59.toNat]
def k8_off5 : Fin 3 → Nat :=
  let c0_26 : Index := 0#32
  let c192 : Index := 192#32
  let c0_i32 : BitVec 32 := 0#32
  let c2048_i32 : BitVec 32 := 2048#32
  let v4 : BitVec 32 := Scalar.muli c0_i32 c2048_i32
  let v5 : BitVec 32 := v4
  let v77 : Index := Scalar.indexCast v5
  ![0, 192, v77.toNat]
def cc8_transform_0 (i : grid8.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc8_transform_1 (i : grid8.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  ![v16.toNat, c0_i32_11.toNat, v27.toNat]

def cc8_transform_2 (i : grid8.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  let c0_i32_11 : BitVec 32 := 0#32
  ![v16.toNat, c0_i32_10.toNat, v27.toNat]

def cc8_transform_3 (i : grid8.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage8_0 : Fin 2 → Memref sig .tc .vmem S1x2048x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x2048x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x2048x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x256x2048 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨2, ![4, 2], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc9_transform_2 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_3 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_4 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_5 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_6 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_7 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_8 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_9 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_10 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage9_0 : Fin 2 → Memref sig .tc .vmem S1x1024x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x512x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S1x512x512 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 1 → Memref sig .tc .vmem S1x1x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 1 → Memref sig .tc .vmem S1x1x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false, false]

abbrev stage9_5 : Fin 1 → Memref sig .tc .vmem S1x1x512 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false, false]

abbrev stage9_6 : Fin 1 → Memref sig .tc .vmem S1x2048x512 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false, false]

abbrev stage9_7 : Fin 1 → Memref sig .tc .vmem S1x1x2048 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false, false]

abbrev stage9_8 : Fin 1 → Memref sig .tc .vmem S1x512x2048 .bf16 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false, false]

abbrev stage9_9 : Fin 1 → Memref sig .tc .vmem S1x1x512 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false, false]

abbrev stage9_10 : Fin 1 → Memref sig .tc .vmem S258x512 .bf16 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false, false]

abbrev stage9_11 : Fin 2 → Memref sig .tc .vmem S1x1024x258 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true, true]
-- ==== KernelIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== ReferenceIdeal.lean ====
abbrev S258x512 : Shape := ⟨2, ![258, 512]⟩
abbrev S512x1 : Shape := ⟨2, ![512, 1]⟩
abbrev S512 : Shape := ⟨1, ![512]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x2048x512 : Shape := ⟨3, ![4, 2048, 512]⟩
abbrev S4x2048 : Shape := ⟨2, ![4, 2048]⟩
abbrev S4x512x2048 : Shape := ⟨3, ![4, 512, 2048]⟩
abbrev S4x256 : Shape := ⟨2, ![4, 256]⟩
abbrev S_ : Shape := ⟨0, ![]⟩
abbrev S4x2048x1 : Shape := ⟨3, ![4, 2048, 1]⟩
abbrev S1x1x256 : Shape := ⟨3, ![1, 1, 256]⟩
abbrev S4x2048x256 : Shape := ⟨3, ![4, 2048, 256]⟩
abbrev S4x1x256 : Shape := ⟨3, ![4, 1, 256]⟩
abbrev S4x2049x256 : Shape := ⟨3, ![4, 2049, 256]⟩
abbrev S4x2041x256 : Shape := ⟨3, ![4, 2041, 256]⟩
abbrev S4x2041 : Shape := ⟨2, ![4, 2041]⟩
abbrev S1 : Shape := ⟨1, ![1]⟩
abbrev S1x1x512 : Shape := ⟨3, ![1, 1, 512]⟩
abbrev S1x1536x512 : Shape := ⟨3, ![1, 1536, 512]⟩
abbrev S1536x512 : Shape := ⟨2, ![1536, 512]⟩
abbrev S1x1536 : Shape := ⟨2, ![1, 1536]⟩
abbrev S1536 : Shape := ⟨1, ![1536]⟩
abbrev S1x512x512 : Shape := ⟨3, ![1, 512, 512]⟩
abbrev S512x512 : Shape := ⟨2, ![512, 512]⟩
abbrev S1x512 : Shape := ⟨2, ![1, 512]⟩
abbrev S1x2048x512 : Shape := ⟨3, ![1, 2048, 512]⟩
abbrev S2048x512 : Shape := ⟨2, ![2048, 512]⟩
abbrev S1x2048 : Shape := ⟨2, ![1, 2048]⟩
abbrev S2048 : Shape := ⟨1, ![2048]⟩
abbrev S1x512x2048 : Shape := ⟨3, ![1, 512, 2048]⟩
abbrev S512x2048 : Shape := ⟨2, ![512, 2048]⟩
abbrev S512x1536 : Shape := ⟨2, ![512, 1536]⟩
abbrev S4x2048x1536 : Shape := ⟨3, ![4, 2048, 1536]⟩
abbrev S1x1x1536 : Shape := ⟨3, ![1, 1, 1536]⟩
abbrev S4x2048x8x64 : Shape := ⟨4, ![4, 2048, 8, 64]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x2048 : Shape := ⟨3, ![4, 2048, 2048]⟩
abbrev S1x1x2048 : Shape := ⟨3, ![1, 1, 2048]⟩
abbrev S512x258 : Shape := ⟨2, ![512, 258]⟩
abbrev S4x2048x258 : Shape := ⟨3, ![4, 2048, 258]⟩

abbrev nBuf : Space → Nat
  | .hbm => 254
  | .vmem => 0
  | .smem => 0
  | _ => 0

abbrev hbmTy0_0 (i : Nat) : BufTy := match i % 128 with
  | 0 => ⟨S258x512, .f32⟩
  | 1 => ⟨S512x1, .f32⟩
  | 2 => ⟨S512, .f32⟩
  | 3 => ⟨S4x1536x512, .f32⟩
  | 4 => ⟨S4x1536, .f32⟩
  | 5 => ⟨S4x512x512, .f32⟩
  | 6 => ⟨S4x512, .f32⟩
  | 7 => ⟨S4x512, .f32⟩
  | 8 => ⟨S4x512, .f32⟩
  | 9 => ⟨S4x512, .f32⟩
  | 10 => ⟨S4x512, .f32⟩
  | 11 => ⟨S4x2048x512, .f32⟩
  | 12 => ⟨S4x2048, .f32⟩
  | 13 => ⟨S4x512x2048, .f32⟩
  | 14 => ⟨S4x512, .f32⟩
  | 15 => ⟨S258x512, .f32⟩
  | 16 => ⟨S4x2048, .i32⟩
  | 17 => ⟨S4x256, .i32⟩
  | 18 => ⟨S_, .i32⟩
  | 19 => ⟨S4x2048, .i32⟩
  | 20 => ⟨S4x2048, .i1⟩
  | 21 => ⟨S_, .i32⟩
  | 22 => ⟨S4x2048, .i32⟩
  | 23 => ⟨S4x2048, .i32⟩
  | 24 => ⟨S4x2048, .i32⟩
  | 25 => ⟨S4x2048x1, .i32⟩
  | 26 => ⟨S4x2048x512, .f32⟩
  | 27 => ⟨S4x2048x1, .i32⟩
  | 28 => ⟨S1x1x256, .i32⟩
  | 29 => ⟨S4x2048x256, .i32⟩
  | 30 => ⟨S4x2048x256, .i32⟩
  | 31 => ⟨S4x2048x256, .i1⟩
  | 32 => ⟨S4x2048x256, .f32⟩
  | 33 => ⟨S_, .f32⟩
  | 34 => ⟨S_, .f32⟩
  | 35 => ⟨S4x2048x256, .f32⟩
  | 36 => ⟨S4x1x256, .f32⟩
  | 37 => ⟨S_, .f32⟩
  | 38 => ⟨S4x1x256, .f32⟩
  | 39 => ⟨S4x2049x256, .f32⟩
  | 40 => ⟨S4x2041x256, .f32⟩
  | 41 => ⟨S4x2041x256, .f32⟩
  | 42 => ⟨S4x2041x256, .f32⟩
  | 43 => ⟨S_, .f32⟩
  | 44 => ⟨S4x2041x256, .f32⟩
  | 45 => ⟨S4x2041x256, .f32⟩
  | 46 => ⟨S_, .f32⟩
  | 47 => ⟨S4x2041x256, .f32⟩
  | 48 => ⟨S4x2041x256, .i1⟩
  | 49 => ⟨S_, .f32⟩
  | 50 => ⟨S_, .f32⟩
  | 51 => ⟨S4x2041x256, .f32⟩
  | 52 => ⟨S4x2041x256, .f32⟩
  | 53 => ⟨S4x2041x256, .f32⟩
  | 54 => ⟨S_, .f32⟩
  | 55 => ⟨S_, .f32⟩
  | 56 => ⟨S4x2041x256, .f32⟩
  | 57 => ⟨S4x2041x256, .f32⟩
  | 58 => ⟨S4x2041x256, .f32⟩
  | 59 => ⟨S_, .f32⟩
  | 60 => ⟨S4x2041, .f32⟩
  | 61 => ⟨S4x2041, .f32⟩
  | 62 => ⟨S_, .f32⟩
  | 63 => ⟨S4x2048, .f32⟩
  | 64 => ⟨S_, .i32⟩
  | 65 => ⟨S1, .i32⟩
  | 66 => ⟨S4x2048, .f32⟩
  | 67 => ⟨S4x2048x1, .f32⟩
  | 68 => ⟨S512, .f32⟩
  | 69 => ⟨S1x1x512, .f32⟩
  | 70 => ⟨S4x2048x512, .f32⟩
  | 71 => ⟨S4x2048x512, .f32⟩
  | 72 => ⟨S4x2048x512, .f32⟩
  | 73 => ⟨S1x1x512, .f32⟩
  | 74 => ⟨S4x2048x512, .f32⟩
  | 75 => ⟨S4x2048x512, .f32⟩
  | 76 => ⟨S4x2048x512, .f32⟩
  | 77 => ⟨S_, .i32⟩
  | 78 => ⟨S4x1536x512, .f32⟩
  | 79 => ⟨S4x1536, .f32⟩
  | 80 => ⟨S4x512x512, .f32⟩
  | 81 => ⟨S4x512, .f32⟩
  | 82 => ⟨S4x512, .f32⟩
  | 83 => ⟨S4x512, .f32⟩
  | 84 => ⟨S4x512, .f32⟩
  | 85 => ⟨S4x512, .f32⟩
  | 86 => ⟨S4x2048x512, .f32⟩
  | 87 => ⟨S4x2048, .f32⟩
  | 88 => ⟨S4x512x2048, .f32⟩
  | 89 => ⟨S4x512, .f32⟩
  | 90 => ⟨S_, .i32⟩
  | 91 => ⟨S4x2048x512, .f32⟩
  | 92 => ⟨S_, .i32⟩
  | 93 => ⟨S_, .i1⟩
  | 94 => ⟨S_, .i32⟩
  | 95 => ⟨S_, .i32⟩
  | 96 => ⟨S1x1536x512, .f32⟩
  | 97 => ⟨S1536x512, .f32⟩
  | 98 => ⟨S_, .i32⟩
  | 99 => ⟨S1x1536, .f32⟩
  | 100 => ⟨S1536, .f32⟩
  | 101 => ⟨S_, .i32⟩
  | 102 => ⟨S_, .i32⟩
  | 103 => ⟨S1x512x512, .f32⟩
  | 104 => ⟨S512x512, .f32⟩
  | 105 => ⟨S_, .i32⟩
  | 106 => ⟨S1x512, .f32⟩
  | 107 => ⟨S512, .f32⟩
  | 108 => ⟨S_, .i32⟩
  | 109 => ⟨S1x512, .f32⟩
  | 110 => ⟨S512, .f32⟩
  | 111 => ⟨S_, .i32⟩
  | 112 => ⟨S1x512, .f32⟩
  | 113 => ⟨S512, .f32⟩
  | 114 => ⟨S_, .i32⟩
  | 115 => ⟨S1x512, .f32⟩
  | 116 => ⟨S512, .f32⟩
  | 117 => ⟨S_, .i32⟩
  | 118 => ⟨S1x512, .f32⟩
  | 119 => ⟨S512, .f32⟩
  | 120 => ⟨S_, .i32⟩
  | 121 => ⟨S_, .i32⟩
  | 122 => ⟨S1x2048x512, .f32⟩
  | 123 => ⟨S2048x512, .f32⟩
  | 124 => ⟨S_, .i32⟩
  | 125 => ⟨S1x2048, .f32⟩
  | 126 => ⟨S2048, .f32⟩
  | 127 => ⟨S_, .i32⟩
  | _ => ⟨S258x512, .f32⟩

abbrev hbmTy0_1 (i : Nat) : BufTy := match i % 128 with
  | 0 => ⟨S_, .i32⟩
  | 1 => ⟨S1x512x2048, .f32⟩
  | 2 => ⟨S512x2048, .f32⟩
  | 3 => ⟨S_, .i32⟩
  | 4 => ⟨S1x512, .f32⟩
  | 5 => ⟨S512, .f32⟩
  | 6 => ⟨S_, .f32⟩
  | 7 => ⟨S4x2048, .f32⟩
  | 8 => ⟨S4x2048x1, .f32⟩
  | 9 => ⟨S_, .f32⟩
  | 10 => ⟨S4x2048x1, .f32⟩
  | 11 => ⟨S4x2048x1, .f32⟩
  | 12 => ⟨S4x2048x512, .f32⟩
  | 13 => ⟨S4x2048x512, .f32⟩
  | 14 => ⟨S4x2048x512, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S4x2048x512, .f32⟩
  | 22 => ⟨S4x2048x512, .f32⟩
  | 23 => ⟨S_, .f32⟩
  | 24 => ⟨S4x2048x1, .f32⟩
  | 25 => ⟨S4x2048x1, .f32⟩
  | 26 => ⟨S4x2048x1, .f32⟩
  | 27 => ⟨S4x2048x512, .f32⟩
  | 28 => ⟨S4x2048x512, .f32⟩
  | 29 => ⟨S1x1x512, .f32⟩
  | 30 => ⟨S4x2048x512, .f32⟩
  | 31 => ⟨S4x2048x512, .f32⟩
  | 32 => ⟨S1x1x512, .f32⟩
  | 33 => ⟨S4x2048x512, .f32⟩
  | 34 => ⟨S4x2048x512, .f32⟩
  | 35 => ⟨S512x1536, .f32⟩
  | 36 => ⟨S4x2048x1536, .f32⟩
  | 37 => ⟨S1x1x1536, .f32⟩
  | 38 => ⟨S4x2048x1536, .f32⟩
  | 39 => ⟨S4x2048x1536, .f32⟩
  | 40 => ⟨S4x2048x512, .f32⟩
  | 41 => ⟨S4x2048x512, .f32⟩
  | 42 => ⟨S4x2048x512, .f32⟩
  | 43 => ⟨S4x2048x8x64, .f32⟩
  | 44 => ⟨S4x2048x8x64, .f32⟩
  | 45 => ⟨S4x2048x8x64, .f32⟩
  | 46 => ⟨S4x8x2048x2048, .f32⟩
  | 47 => ⟨S_, .f32⟩
  | 48 => ⟨S4x8x2048x2048, .f32⟩
  | 49 => ⟨S4x8x2048x2048, .f32⟩
  | 50 => ⟨S_, .f32⟩
  | 51 => ⟨S4x8x2048, .f32⟩
  | 52 => ⟨S_, .f32⟩
  | 53 => ⟨S4x8x2048, .f32⟩
  | 54 => ⟨S4x8x2048, .f32⟩
  | 55 => ⟨S4x8x2048x1, .f32⟩
  | 56 => ⟨S4x8x2048x2048, .f32⟩
  | 57 => ⟨S4x8x2048x2048, .f32⟩
  | 58 => ⟨S4x8x2048x2048, .f32⟩
  | 59 => ⟨S_, .f32⟩
  | 60 => ⟨S4x8x2048, .f32⟩
  | 61 => ⟨S4x8x2048x1, .f32⟩
  | 62 => ⟨S4x8x2048x2048, .f32⟩
  | 63 => ⟨S4x8x2048x2048, .f32⟩
  | 64 => ⟨S4x8x64x2048, .f32⟩
  | 65 => ⟨S4x2048x8x64, .f32⟩
  | 66 => ⟨S4x2048x512, .f32⟩
  | 67 => ⟨S512x512, .f32⟩
  | 68 => ⟨S4x2048x512, .f32⟩
  | 69 => ⟨S4x2048x512, .f32⟩
  | 70 => ⟨S1x1x512, .f32⟩
  | 71 => ⟨S4x2048x512, .f32⟩
  | 72 => ⟨S4x2048x512, .f32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S4x2048x512, .f32⟩
  | 80 => ⟨S4x2048x512, .f32⟩
  | 81 => ⟨S4x2048x512, .f32⟩
  | 82 => ⟨S_, .f32⟩
  | 83 => ⟨S4x2048, .f32⟩
  | 84 => ⟨S4x2048x1, .f32⟩
  | 85 => ⟨S_, .f32⟩
  | 86 => ⟨S4x2048x1, .f32⟩
  | 87 => ⟨S4x2048x1, .f32⟩
  | 88 => ⟨S4x2048x512, .f32⟩
  | 89 => ⟨S4x2048x512, .f32⟩
  | 90 => ⟨S_, .f32⟩
  | 91 => ⟨S4x2048x1, .f32⟩
  | 92 => ⟨S4x2048x1, .f32⟩
  | 93 => ⟨S4x2048x1, .f32⟩
  | 94 => ⟨S4x2048x512, .f32⟩
  | 95 => ⟨S4x2048x512, .f32⟩
  | 96 => ⟨S1x1x512, .f32⟩
  | 97 => ⟨S4x2048x512, .f32⟩
  | 98 => ⟨S4x2048x512, .f32⟩
  | 99 => ⟨S1x1x512, .f32⟩
  | 100 => ⟨S4x2048x512, .f32⟩
  | 101 => ⟨S4x2048x512, .f32⟩
  | 102 => ⟨S512x2048, .f32⟩
  | 103 => ⟨S4x2048x2048, .f32⟩
  | 104 => ⟨S1x1x2048, .f32⟩
  | 105 => ⟨S4x2048x2048, .f32⟩
  | 106 => ⟨S4x2048x2048, .f32⟩
  | 107 => ⟨S_, .f32⟩
  | 108 => ⟨S4x2048x2048, .f32⟩
  | 109 => ⟨S4x2048x2048, .f32⟩
  | 110 => ⟨S4x2048x2048, .f32⟩
  | 111 => ⟨S_, .f32⟩
  | 112 => ⟨S4x2048x2048, .f32⟩
  | 113 => ⟨S4x2048x2048, .f32⟩
  | 114 => ⟨S4x2048x2048, .f32⟩
  | 115 => ⟨S4x2048x2048, .f32⟩
  | 116 => ⟨S2048x512, .f32⟩
  | 117 => ⟨S4x2048x512, .f32⟩
  | 118 => ⟨S1x1x512, .f32⟩
  | 119 => ⟨S4x2048x512, .f32⟩
  | 120 => ⟨S4x2048x512, .f32⟩
  | 121 => ⟨S4x2048x512, .f32⟩
  | 122 => ⟨S_, .i32⟩
  | 123 => ⟨S_, .i32⟩
  | 124 => ⟨S512x258, .f32⟩
  | 125 => ⟨S4x2048x258, .f32⟩
  | _ => ⟨S258x512, .f32⟩

abbrev hbmTy (i : Nat) : BufTy := match i / 128 with
  | 0 => hbmTy0_0 i
  | 1 => hbmTy0_1 i
  | _ => ⟨S258x512, .f32⟩

abbrev bufTy : (tb : Table) → Fin (tcTables nBuf tb) → BufTy
  | .hbm, ⟨i, _⟩ => hbmTy i
  | _, _ => ⟨S258x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v7 : Ref sig .tc := ⟨.hbm, 32, rfl⟩
abbrev main_call1_call0_cst : Ref sig .tc := ⟨.hbm, 33, rfl⟩
abbrev main_call1_call0_v0 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_call2_v0 : Ref sig .tc := ⟨.hbm, 50, rfl⟩
abbrev main_call2_v1 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_c_7 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_8 : Ref sig .tc := ⟨.hbm, 77, rfl⟩
abbrev main_v40_0 : Ref sig .tc := ⟨.hbm, 78, rfl⟩
abbrev main_v40_1 : Ref sig .tc := ⟨.hbm, 79, rfl⟩
abbrev main_v40_2 : Ref sig .tc := ⟨.hbm, 80, rfl⟩
abbrev main_v40_3 : Ref sig .tc := ⟨.hbm, 81, rfl⟩
abbrev main_v40_4 : Ref sig .tc := ⟨.hbm, 82, rfl⟩
abbrev main_v40_5 : Ref sig .tc := ⟨.hbm, 83, rfl⟩
abbrev main_v40_6 : Ref sig .tc := ⟨.hbm, 84, rfl⟩
abbrev main_v40_7 : Ref sig .tc := ⟨.hbm, 85, rfl⟩
abbrev main_v40_8 : Ref sig .tc := ⟨.hbm, 86, rfl⟩
abbrev main_v40_9 : Ref sig .tc := ⟨.hbm, 87, rfl⟩
abbrev main_v40_10 : Ref sig .tc := ⟨.hbm, 88, rfl⟩
abbrev main_v40_11 : Ref sig .tc := ⟨.hbm, 89, rfl⟩
abbrev main_v40_12 : Ref sig .tc := ⟨.hbm, 90, rfl⟩
abbrev main_v40_13 : Ref sig .tc := ⟨.hbm, 91, rfl⟩
abbrev main_while0c_c_22 : Ref sig .tc := ⟨.hbm, 92, rfl⟩
abbrev main_while0c_v43 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_v0 : Ref sig .tc := ⟨.hbm, 96, rfl⟩
abbrev main_while0b_v43 : Ref sig .tc := ⟨.hbm, 97, rfl⟩
abbrev main_while0b_call4_c : Ref sig .tc := ⟨.hbm, 98, rfl⟩
abbrev main_while0b_call4_v0 : Ref sig .tc := ⟨.hbm, 99, rfl⟩
abbrev main_while0b_v44 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_v0 : Ref sig .tc := ⟨.hbm, 103, rfl⟩
abbrev main_while0b_v45 : Ref sig .tc := ⟨.hbm, 104, rfl⟩
abbrev main_while0b_call6_c : Ref sig .tc := ⟨.hbm, 105, rfl⟩
abbrev main_while0b_call6_v0 : Ref sig .tc := ⟨.hbm, 106, rfl⟩
abbrev main_while0b_v46 : Ref sig .tc := ⟨.hbm, 107, rfl⟩
abbrev main_while0b_call7_c : Ref sig .tc := ⟨.hbm, 108, rfl⟩
abbrev main_while0b_call7_v0 : Ref sig .tc := ⟨.hbm, 109, rfl⟩
abbrev main_while0b_v47 : Ref sig .tc := ⟨.hbm, 110, rfl⟩
abbrev main_while0b_call8_c : Ref sig .tc := ⟨.hbm, 111, rfl⟩
abbrev main_while0b_call8_v0 : Ref sig .tc := ⟨.hbm, 112, rfl⟩
abbrev main_while0b_v48 : Ref sig .tc := ⟨.hbm, 113, rfl⟩
abbrev main_while0b_call9_c : Ref sig .tc := ⟨.hbm, 114, rfl⟩
abbrev main_while0b_call9_v0 : Ref sig .tc := ⟨.hbm, 115, rfl⟩
abbrev main_while0b_v49 : Ref sig .tc := ⟨.hbm, 116, rfl⟩
abbrev main_while0b_call10_c : Ref sig .tc := ⟨.hbm, 117, rfl⟩
abbrev main_while0b_call10_v0 : Ref sig .tc := ⟨.hbm, 118, rfl⟩
abbrev main_while0b_v50 : Ref sig .tc := ⟨.hbm, 119, rfl⟩
abbrev main_while0b_call11_c : Ref sig .tc := ⟨.hbm, 120, rfl⟩
abbrev main_while0b_call11_c_0 : Ref sig .tc := ⟨.hbm, 121, rfl⟩
abbrev main_while0b_call11_v0 : Ref sig .tc := ⟨.hbm, 122, rfl⟩
abbrev main_while0b_v51 : Ref sig .tc := ⟨.hbm, 123, rfl⟩
abbrev main_while0b_call12_c : Ref sig .tc := ⟨.hbm, 124, rfl⟩
abbrev main_while0b_call12_v0 : Ref sig .tc := ⟨.hbm, 125, rfl⟩
abbrev main_while0b_v52 : Ref sig .tc := ⟨.hbm, 126, rfl⟩
abbrev main_while0b_call13_c : Ref sig .tc := ⟨.hbm, 127, rfl⟩
abbrev main_while0b_call13_c_0 : Ref sig .tc := ⟨.hbm, 128, rfl⟩
abbrev main_while0b_call13_v0 : Ref sig .tc := ⟨.hbm, 129, rfl⟩
abbrev main_while0b_v53 : Ref sig .tc := ⟨.hbm, 130, rfl⟩
abbrev main_while0b_call14_c : Ref sig .tc := ⟨.hbm, 131, rfl⟩
abbrev main_while0b_call14_v0 : Ref sig .tc := ⟨.hbm, 132, rfl⟩
abbrev main_while0b_v54 : Ref sig .tc := ⟨.hbm, 133, rfl⟩
abbrev main_while0b_cst_22 : Ref sig .tc := ⟨.hbm, 134, rfl⟩
abbrev main_while0b_v55 : Ref sig .tc := ⟨.hbm, 135, rfl⟩
abbrev main_while0b_v56 : Ref sig .tc := ⟨.hbm, 136, rfl⟩
abbrev main_while0b_cst_23 : Ref sig .tc := ⟨.hbm, 137, rfl⟩
abbrev main_while0b_v57 : Ref sig .tc := ⟨.hbm, 138, rfl⟩
abbrev main_while0b_v58 : Ref sig .tc := ⟨.hbm, 139, rfl⟩
abbrev main_while0b_v59 : Ref sig .tc := ⟨.hbm, 140, rfl⟩
abbrev main_while0b_v60 : Ref sig .tc := ⟨.hbm, 141, rfl⟩
abbrev main_while0b_v61 : Ref sig .tc := ⟨.hbm, 142, rfl⟩
abbrev main_while0b_cst_24 : Ref sig .tc := ⟨.hbm, 143, rfl⟩
abbrev main_while0b_v62 : Ref sig .tc := ⟨.hbm, 144, rfl⟩
abbrev main_while0b_v63 : Ref sig .tc := ⟨.hbm, 145, rfl⟩
abbrev main_while0b_cst_25 : Ref sig .tc := ⟨.hbm, 146, rfl⟩
abbrev main_while0b_v64 : Ref sig .tc := ⟨.hbm, 147, rfl⟩
abbrev main_while0b_v65 : Ref sig .tc := ⟨.hbm, 148, rfl⟩
abbrev main_while0b_v66 : Ref sig .tc := ⟨.hbm, 149, rfl⟩
abbrev main_while0b_v67 : Ref sig .tc := ⟨.hbm, 150, rfl⟩
abbrev main_while0b_cst_26 : Ref sig .tc := ⟨.hbm, 151, rfl⟩
abbrev main_while0b_v68 : Ref sig .tc := ⟨.hbm, 152, rfl⟩
abbrev main_while0b_v69 : Ref sig .tc := ⟨.hbm, 153, rfl⟩
abbrev main_while0b_v70 : Ref sig .tc := ⟨.hbm, 154, rfl⟩
abbrev main_while0b_v71 : Ref sig .tc := ⟨.hbm, 155, rfl⟩
abbrev main_while0b_v72 : Ref sig .tc := ⟨.hbm, 156, rfl⟩
abbrev main_while0b_v73 : Ref sig .tc := ⟨.hbm, 157, rfl⟩
abbrev main_while0b_v74 : Ref sig .tc := ⟨.hbm, 158, rfl⟩
abbrev main_while0b_v75 : Ref sig .tc := ⟨.hbm, 159, rfl⟩
abbrev main_while0b_v76 : Ref sig .tc := ⟨.hbm, 160, rfl⟩
abbrev main_while0b_v77 : Ref sig .tc := ⟨.hbm, 161, rfl⟩
abbrev main_while0b_v78 : Ref sig .tc := ⟨.hbm, 162, rfl⟩
abbrev main_while0b_v79 : Ref sig .tc := ⟨.hbm, 163, rfl⟩
abbrev main_while0b_v80 : Ref sig .tc := ⟨.hbm, 164, rfl⟩
abbrev main_while0b_v81 : Ref sig .tc := ⟨.hbm, 165, rfl⟩
abbrev main_while0b_v82 : Ref sig .tc := ⟨.hbm, 166, rfl⟩
abbrev main_while0b_v83 : Ref sig .tc := ⟨.hbm, 167, rfl⟩
abbrev main_while0b_v84 : Ref sig .tc := ⟨.hbm, 168, rfl⟩
abbrev main_while0b_v85 : Ref sig .tc := ⟨.hbm, 169, rfl⟩
abbrev main_while0b_v86 : Ref sig .tc := ⟨.hbm, 170, rfl⟩
abbrev main_while0b_v87 : Ref sig .tc := ⟨.hbm, 171, rfl⟩
abbrev main_while0b_v88 : Ref sig .tc := ⟨.hbm, 172, rfl⟩
abbrev main_while0b_v89 : Ref sig .tc := ⟨.hbm, 173, rfl⟩
abbrev main_while0b_v90 : Ref sig .tc := ⟨.hbm, 174, rfl⟩
abbrev main_while0b_cst_27 : Ref sig .tc := ⟨.hbm, 175, rfl⟩
abbrev main_while0b_v91 : Ref sig .tc := ⟨.hbm, 176, rfl⟩
abbrev main_while0b_v92 : Ref sig .tc := ⟨.hbm, 177, rfl⟩
abbrev main_while0b_cst_28 : Ref sig .tc := ⟨.hbm, 178, rfl⟩
abbrev main_while0b_v93 : Ref sig .tc := ⟨.hbm, 179, rfl⟩
abbrev main_while0b_cst_29 : Ref sig .tc := ⟨.hbm, 180, rfl⟩
abbrev main_while0b_v94 : Ref sig .tc := ⟨.hbm, 181, rfl⟩
abbrev main_while0b_v95 : Ref sig .tc := ⟨.hbm, 182, rfl⟩
abbrev main_while0b_v96 : Ref sig .tc := ⟨.hbm, 183, rfl⟩
abbrev main_while0b_v97 : Ref sig .tc := ⟨.hbm, 184, rfl⟩
abbrev main_while0b_v98 : Ref sig .tc := ⟨.hbm, 185, rfl⟩
abbrev main_while0b_v99 : Ref sig .tc := ⟨.hbm, 186, rfl⟩
abbrev main_while0b_cst_30 : Ref sig .tc := ⟨.hbm, 187, rfl⟩
abbrev main_while0b_v100 : Ref sig .tc := ⟨.hbm, 188, rfl⟩
abbrev main_while0b_v101 : Ref sig .tc := ⟨.hbm, 189, rfl⟩
abbrev main_while0b_v102 : Ref sig .tc := ⟨.hbm, 190, rfl⟩
abbrev main_while0b_v103 : Ref sig .tc := ⟨.hbm, 191, rfl⟩
abbrev main_while0b_v104 : Ref sig .tc := ⟨.hbm, 192, rfl⟩
abbrev main_while0b_v105 : Ref sig .tc := ⟨.hbm, 193, rfl⟩
abbrev main_while0b_v106 : Ref sig .tc := ⟨.hbm, 194, rfl⟩
abbrev main_while0b_v107 : Ref sig .tc := ⟨.hbm, 195, rfl⟩
abbrev main_while0b_v108 : Ref sig .tc := ⟨.hbm, 196, rfl⟩
abbrev main_while0b_v109 : Ref sig .tc := ⟨.hbm, 197, rfl⟩
abbrev main_while0b_v110 : Ref sig .tc := ⟨.hbm, 198, rfl⟩
abbrev main_while0b_v111 : Ref sig .tc := ⟨.hbm, 199, rfl⟩
abbrev main_while0b_v112 : Ref sig .tc := ⟨.hbm, 200, rfl⟩
abbrev main_while0b_cst_31 : Ref sig .tc := ⟨.hbm, 201, rfl⟩
abbrev main_while0b_v113 : Ref sig .tc := ⟨.hbm, 202, rfl⟩
abbrev main_while0b_v114 : Ref sig .tc := ⟨.hbm, 203, rfl⟩
abbrev main_while0b_cst_32 : Ref sig .tc := ⟨.hbm, 204, rfl⟩
abbrev main_while0b_v115 : Ref sig .tc := ⟨.hbm, 205, rfl⟩
abbrev main_while0b_v116 : Ref sig .tc := ⟨.hbm, 206, rfl⟩
abbrev main_while0b_v117 : Ref sig .tc := ⟨.hbm, 207, rfl⟩
abbrev main_while0b_v118 : Ref sig .tc := ⟨.hbm, 208, rfl⟩
abbrev main_while0b_v119 : Ref sig .tc := ⟨.hbm, 209, rfl⟩
abbrev main_while0b_cst_33 : Ref sig .tc := ⟨.hbm, 210, rfl⟩
abbrev main_while0b_v120 : Ref sig .tc := ⟨.hbm, 211, rfl⟩
abbrev main_while0b_v121 : Ref sig .tc := ⟨.hbm, 212, rfl⟩
abbrev main_while0b_cst_34 : Ref sig .tc := ⟨.hbm, 213, rfl⟩
abbrev main_while0b_v122 : Ref sig .tc := ⟨.hbm, 214, rfl⟩
abbrev main_while0b_v123 : Ref sig .tc := ⟨.hbm, 215, rfl⟩
abbrev main_while0b_v124 : Ref sig .tc := ⟨.hbm, 216, rfl⟩
abbrev main_while0b_v125 : Ref sig .tc := ⟨.hbm, 217, rfl⟩
abbrev main_while0b_cst_35 : Ref sig .tc := ⟨.hbm, 218, rfl⟩
abbrev main_while0b_v126 : Ref sig .tc := ⟨.hbm, 219, rfl⟩
abbrev main_while0b_v127 : Ref sig .tc := ⟨.hbm, 220, rfl⟩
abbrev main_while0b_v128 : Ref sig .tc := ⟨.hbm, 221, rfl⟩
abbrev main_while0b_v129 : Ref sig .tc := ⟨.hbm, 222, rfl⟩
abbrev main_while0b_v130 : Ref sig .tc := ⟨.hbm, 223, rfl⟩
abbrev main_while0b_v131 : Ref sig .tc := ⟨.hbm, 224, rfl⟩
abbrev main_while0b_v132 : Ref sig .tc := ⟨.hbm, 225, rfl⟩
abbrev main_while0b_v133 : Ref sig .tc := ⟨.hbm, 226, rfl⟩
abbrev main_while0b_v134 : Ref sig .tc := ⟨.hbm, 227, rfl⟩
abbrev main_while0b_v135 : Ref sig .tc := ⟨.hbm, 228, rfl⟩
abbrev main_while0b_v136 : Ref sig .tc := ⟨.hbm, 229, rfl⟩
abbrev main_while0b_v137 : Ref sig .tc := ⟨.hbm, 230, rfl⟩
abbrev main_while0b_v138 : Ref sig .tc := ⟨.hbm, 231, rfl⟩
abbrev main_while0b_v139 : Ref sig .tc := ⟨.hbm, 232, rfl⟩
abbrev main_while0b_v140 : Ref sig .tc := ⟨.hbm, 233, rfl⟩
abbrev main_while0b_v141 : Ref sig .tc := ⟨.hbm, 234, rfl⟩
abbrev main_while0b_cst_36 : Ref sig .tc := ⟨.hbm, 235, rfl⟩
abbrev main_while0b_v142 : Ref sig .tc := ⟨.hbm, 236, rfl⟩
abbrev main_while0b_v143 : Ref sig .tc := ⟨.hbm, 237, rfl⟩
abbrev main_while0b_v144 : Ref sig .tc := ⟨.hbm, 238, rfl⟩
abbrev main_while0b_cst_37 : Ref sig .tc := ⟨.hbm, 239, rfl⟩
abbrev main_while0b_v145 : Ref sig .tc := ⟨.hbm, 240, rfl⟩
abbrev main_while0b_v146 : Ref sig .tc := ⟨.hbm, 241, rfl⟩
abbrev main_while0b_v147 : Ref sig .tc := ⟨.hbm, 242, rfl⟩
abbrev main_while0b_v148 : Ref sig .tc := ⟨.hbm, 243, rfl⟩
abbrev main_while0b_v149 : Ref sig .tc := ⟨.hbm, 244, rfl⟩
abbrev main_while0b_v150 : Ref sig .tc := ⟨.hbm, 245, rfl⟩
abbrev main_while0b_v151 : Ref sig .tc := ⟨.hbm, 246, rfl⟩
abbrev main_while0b_v152 : Ref sig .tc := ⟨.hbm, 247, rfl⟩
abbrev main_while0b_v153 : Ref sig .tc := ⟨.hbm, 248, rfl⟩
abbrev main_while0b_v154 : Ref sig .tc := ⟨.hbm, 249, rfl⟩
abbrev main_while0b_c_38 : Ref sig .tc := ⟨.hbm, 250, rfl⟩
abbrev main_while0b_v155 : Ref sig .tc := ⟨.hbm, 251, rfl⟩
abbrev main_v41 : Ref sig .tc := ⟨.hbm, 252, rfl⟩
abbrev main_v42 : Ref sig .tc := ⟨.hbm, 253, rfl⟩

abbrev nD : Nat := 1
abbrev τ : Topo := Topo.v7x

variable {F : FTy → Type} [FloatOps F]

abbrev main_while0_count : Scf.Loop 32 := ⟨0#32, 4#32, 1#32⟩
-- ==== Proof.Model.lean ====
/- The model both programs are compared with: a byte-level transformer written as plain functions of
   indices over the extended reals. A row is a function of its 512 features, a sequence a function of
   its 2048 positions. Nothing here refers to blocks, grids or buffers. -/
module

public import Idealize.ShloMosaic.PureOps.Ideal

@[expose] public section

noncomputable section

namespace Cert.Model

open Idealize.ShloMosaic

/-- The mean of a row of 512 features: their sum divided by the constant 512. -/
def mean (v : Fin 512 → EReal) : EReal := Ideal.div (∑ x, v x) (Ideal.ofBits .f32 0x44000000#32)

/-- A row less its mean, scaled by the reciprocal root of its variance plus the constant `1e-5`. -/
def normed (v : Fin 512 → EReal) (x : Fin 512) : EReal :=
  (v x - mean v) * Ideal.rsqrt (mean (fun y => (v y - mean v) * (v y - mean v)) + Ideal.ofBits .f32 0x3727C5AC#32)

/-- Layer normalisation of a row, with scale `s` and bias `b`. -/
def lnorm (v s b : Fin 512 → EReal) (x : Fin 512) : EReal := normed v x * s x + b x

/-- A row times the transpose of a weight matrix, plus a bias. -/
def lin {n k : ℕ} (w : Fin n → Fin k → EReal) (b : Fin n → EReal) (v : Fin k → EReal) (j : Fin n) : EReal :=
  ∑ x, v x * w j x + b j

/-- The gaussian error linear unit, `u/2 · (1 + erf (u/√2))`, its constants as the programs have them. -/
def gelu (u : EReal) : EReal :=
  Ideal.ofBits .f32 0x3F000000#32 * u * (1 + Ideal.erf (u * Ideal.ofBits .f32 0x3F3504F3#32))

/-- One layer's parameters: the two normalisations, the projections of attention and the two products
    of the feed-forward part. -/
structure Layer where
  s1 : Fin 512 → EReal
  b1 : Fin 512 → EReal
  qw : Fin 1536 → Fin 512 → EReal
  qb : Fin 1536 → EReal
  aw : Fin 512 → Fin 512 → EReal
  ab : Fin 512 → EReal
  s2 : Fin 512 → EReal
  b2 : Fin 512 → EReal
  w1 : Fin 2048 → Fin 512 → EReal
  c1 : Fin 2048 → EReal
  w2 : Fin 512 → Fin 2048 → EReal
  c2 : Fin 512 → EReal

/-- A row's queries, keys and values, 512 of each in this order. -/
def qkv (P : Layer) (h : Fin 512 → EReal) : Fin 1536 → EReal := lin P.qw P.qb (lnorm h P.s1 P.b1)

/-- The row after attention: `h`, plus the projection of the heads' outputs `o`, plus its bias. -/
def resid (P : Layer) (h o : Fin 512 → EReal) (d : Fin 512) : EReal := h d + ∑ x, o x * P.aw d x + P.ab d

/-- The feed-forward half of a layer, added to its input row. -/
def ffn (P : Layer) (g : Fin 512 → EReal) (d : Fin 512) : EReal :=
  g d + lin P.w2 P.c2 (fun j => gelu (lin P.w1 P.c1 (lnorm g P.s2 P.b2) j)) d

/-- The scale of the scores, times the factor from base `e` to base 2: `1/8 · 1/log 2`. -/
def scale : EReal := (((1 / 8) * (Real.log 2)⁻¹ : ℝ) : EReal)

/-- One head's output at one query and one feature: the values `v` weighed by powers of two of the
    scaled scores, the sum of the weights divided out at the end. -/
def head (q : Fin 64 → EReal) (k : Fin 2048 → Fin 64 → EReal) (v : Fin 2048 → EReal) : EReal :=
  Ideal.div (∑ m, v m * Ideal.exp2 ((∑ e, k m e * q e) * scale)) (∑ m, Ideal.exp2 ((∑ e, k m e * q e) * scale))

/-- Attention from the rows' queries, keys and values: feature `d` belongs to head `d / 64`. -/
def attn (z : Fin 2048 → Fin 1536 → EReal) (t : Fin 2048) (d : Fin 512) : EReal :=
  head (fun e => z t ⟨(d : ℕ) / 64 * 64 + e, by omega⟩)
    (fun m e => z m ⟨512 + (d : ℕ) / 64 * 64 + e, by omega⟩)
    (fun m => z m ⟨1024 + (d : ℕ), by omega⟩)

/-- The score of a key at a query in one head: their product over 8. -/
def score (z : Fin 2048 → Fin 1536 → EReal) (a : Fin 8) (t m : Fin 2048) : EReal :=
  Ideal.div (∑ e : Fin 64, z t ⟨(a : ℕ) * 64 + e, by omega⟩ * z m ⟨512 + ((a : ℕ) * 64 + e), by omega⟩) (Ideal.ofBits .f32 0x41000000#32)

/-- The exponential of a score less the greatest score. -/
def weight (s : Fin 2048 → EReal) (m : Fin 2048) : EReal :=
  Ideal.exp (s m - max (Ideal.ofBits .f32 0xFF800000#32) (Finset.univ.fold max (Ideal.ofBits .f32 0xFF800000#32) s))

/-- Attention as the softmax of the scores, each weight divided before the values are added up. -/
def softAttn (z : Fin 2048 → Fin 1536 → EReal) (t : Fin 2048) (d : Fin 512) : EReal :=
  ∑ m, z m ⟨1024 + (d : ℕ), by omega⟩ *
    Ideal.div (weight (score z ⟨(d : ℕ) / 64, by omega⟩ t) m) (∑ k, weight (score z ⟨(d : ℕ) / 64, by omega⟩ t) k)

/-- One layer on a whole sequence. -/
def layer (P : Layer) (h : Fin 2048 → Fin 512 → EReal) (t : Fin 2048) : Fin 512 → EReal :=
  ffn P (resid P (h t) (attn (fun m => qkv P (h m)) t))

/-- One layer on a whole sequence, its attention the softmax. -/
def softLayer (P : Layer) (h : Fin 2048 → Fin 512 → EReal) (t : Fin 2048) : Fin 512 → EReal :=
  ffn P (resid P (h t) (softAttn (fun m => qkv P (h m)) t))

/-- Everything a run reads: the table, the entropy feature's weights, the layers, the output table, the tokens. -/
structure Inputs where
  emb : Fin 258 → Fin 512 → EReal
  ew : Fin 512 → EReal
  eb : Fin 512 → EReal
  P : Fin 4 → Layer
  ow : Fin 258 → Fin 512 → EReal
  x : Fin 4 → Fin 2048 → Fin 258

/-- The row a token and its entropy feature start with. -/
def start (emb : Fin 258 → Fin 512 → EReal) (w b : Fin 512 → EReal) (x : Fin 258) (e : EReal) (d : Fin 512) : EReal :=
  emb x d + e * w d + b d

/-- The rows of sequence `b` before the first layer, the entropy features being `feat`. -/
def rows0 (I : Inputs) (feat : (Fin 2048 → Fin 258) → Fin 2048 → EReal) (b : Fin 4) (t : Fin 2048) : Fin 512 → EReal :=
  start I.emb I.ew I.eb (I.x b t) (feat (I.x b) t)

/-- The rows after the four layers. -/
def rows (I : Inputs) (feat : (Fin 2048 → Fin 258) → Fin 2048 → EReal) (b : Fin 4) : Fin 2048 → Fin 512 → EReal :=
  layer (I.P 3) (layer (I.P 2) (layer (I.P 1) (layer (I.P 0) (rows0 I feat b))))

/-- The logits. -/
def logits (I : Inputs) (feat : (Fin 2048 → Fin 258) → Fin 2048 → EReal) (b : Fin 4) (t : Fin 2048) (v : Fin 258) : EReal :=
  ∑ d, rows I feat b t d * I.ow v d

end Cert.Model

end
-- ==== Proof.Attn.lean ====
/- The attention kernels: each layer's array, entry by entry, from the queries, keys and values it is given. -/
module

public import proofs.«01_k».proof.Proof.Model
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Proof
open Idealize.ShloMosaic Idealize.ShloMosaic.TcCoe Idealize.SL.Sem
open Cert.KernelIdeal Cert.KernelIdeal.Gen

/-- The named constant of the attention kernels is the model's scale. -/
theorem scale_eq : (Named.named (F := Ideal) κ "scale_log2e" (φ := .f32) 0x3E38AA3B#32 : EReal) = Model.scale :=
  IdealRules.named_const.ideal_named_scalar _ _ _ _ rfl

/-- The attention kernels read their queries from the first row of their block on. -/
theorem off_zero : (k2_off1 1 = 0) ∧ (k2_off1 2 = 0) := by decide +kernel

/-- What attention's body stores, at one feature of the block's four heads and one query. -/
theorem out2_at (q k v : Vec Ideal S1x2048x256 .bf16) (d : Fin 256) (t : Fin 2048) :
    out2_3 q k v (ix3 0 d t) = Model.head (fun e => q (ix3 0 t ⟨(d : ℕ) / 64 * 64 + e, by omega⟩))
      (fun m e => k (ix3 0 m ⟨(d : ℕ) / 64 * 64 + e, by omega⟩)) (fun m => v (ix3 0 m d)) := by
  unfold_out out2_3
  canon_tiles x h
  all_goals idx_vars x
  all_goals pointwise [k2_pay1, k2_pay2, k2_pay3, k2_pay4, k2_pay5, k2_pay6, k2_pay7, k2_pay8, k2_pay9, k2_pay10, Model.head]
  all_goals obtain rfl : t = x2 := Fin.ext h2
  all_goals simp only [scale_eq, off_zero.1, off_zero.2, Nat.zero_add]
  · have hb : 192 + (x1 : ℕ) < 256 := by omega
    obtain rfl : d = ⟨192 + x1, hb⟩ := Fin.ext h1
    have e : (192 + (x1 : ℕ)) / 64 * 64 = 192 := by omega
    simp only [e]; rfl
  · have hb : 128 + (x1 : ℕ) < 256 := by omega
    obtain rfl : d = ⟨128 + x1, hb⟩ := Fin.ext h1
    have e : (128 + (x1 : ℕ)) / 64 * 64 = 128 := by omega
    simp only [e]; rfl
  · have hb : 64 + (x1 : ℕ) < 256 := by omega
    obtain rfl : d = ⟨64 + x1, hb⟩ := Fin.ext h1
    have e : (64 + (x1 : ℕ)) / 64 * 64 = 64 := by omega
    simp only [e]; rfl
  · have hb : (x1 : ℕ) < 256 := by omega
    obtain rfl : d = ⟨x1, hb⟩ := Fin.ext h1
    have e : (x1 : ℕ) / 64 * 64 = 0 := by omega
    simp only [e, Nat.zero_add]; rfl

/-- The same with the three blocks read off a sequence's rows `z`: the block of group `g` (0 or 1) holds
    heads `4g … 4g+3`, its queries from column `256 g` on, the keys 512 further and the values 1024. -/
theorem attn_block (z : Fin 2048 → Fin 1536 → EReal) (g : ℕ) (hg : g < 2) (q k v : Vec Ideal S1x2048x256 .bf16)
    (hq : ∀ (t : Fin 2048) (d : Fin 256), q (ix3 0 t d) = z t ⟨g * 256 + d, by omega⟩)
    (hk : ∀ (t : Fin 2048) (d : Fin 256), k (ix3 0 t d) = z t ⟨(2 + g) * 256 + d, by omega⟩)
    (hv : ∀ (t : Fin 2048) (d : Fin 256), v (ix3 0 t d) = z t ⟨(4 + g) * 256 + d, by omega⟩)
    (y : S1x256x2048.Idx) (t : Fin 2048) (d : Fin 512) (ht : (t : ℕ) = y 2) (hd : (d : ℕ) = g * 256 + y 1) :
    out2_3 q k v y = Model.attn z t d := by
  idx_vars y
  obtain rfl : y0 = 0 := Subsingleton.elim _ _
  rw [out2_at]
  unfold Model.attn
  have ht' : t = y2 := Fin.ext ht
  have hd' : (d : ℕ) = g * 256 + (y1 : ℕ) := hd
  subst ht'
  have e : (d : ℕ) / 64 * 64 = g * 256 + (y1 : ℕ) / 64 * 64 := by omega
  congr 1
  · funext x; rw [hq]; congr 1; apply Fin.ext; simp only [e]; omega
  · funext m x; rw [hk]; congr 1; apply Fin.ext; simp only [e]; omega
  · funext m; rw [hv]; congr 1; apply Fin.ext; simp only [hd']; omega

/-- A function of three coordinates takes equal values at coordinates of equal numbers. -/
theorem at3 {n0 n1 n2 : ℕ} {α : Type} (z : Fin n0 → Fin n1 → Fin n2 → α) {a a' : Fin n0} {b b' : Fin n1} {d d' : Fin n2}
    (ha : (a : ℕ) = a') (hb : (b : ℕ) = b') (hd : (d : ℕ) = d') : z a b d = z a' b' d' := by
  rw [Fin.ext ha, Fin.ext hb, Fin.ext hd]

section
variable (V : (c : Dev nD) → (b : Ref sig .tc) → Buf (Elt Ideal) ((c : Thread nD τ).loc b))

/-- The blocks' places of attention's windows at each grid point. -/
theorem idx2 : ∀ t : Fin cfg2.N, win2_0.index t = ![t.val / 2, 0, t.val % 2] ∧ win2_1.index t = ![t.val / 2, 0, 2 + t.val % 2]
    ∧ win2_2.index t = ![t.val / 2, 0, 4 + t.val % 2] ∧ win2_3.index t = ![t.val / 2, t.val % 2, 0] :=
  (by decide +kernel : ∀ t : Fin grid2.N, _)

/-- The first layer's attention: the array the kernel fills. -/
theorem final2 (c : Dev nD) (z : Fin 4 → Fin 2048 → Fin 1536 → EReal)
    (hz : (V c main_v18_1 : FVec Ideal S4x2048x1536 .bf16) = fun i => z (i 0) (i 1) (i 2)) :
    (dat2 V c).arrAt 3 cfg2.N = (fun i : S4x512x2048.Idx => Model.attn (z (i 0)) (i 2) (i 1)) := by
  refine (dat2 V c).arrAt_eq_of_covers 3 _ (by decide +kernel) fun t hf y => ?_
  obtain ⟨e0, e1, e2, e3⟩ := idx2 t
  blk_simp
  rw [after2_3]
  refine attn_block _ (t.val % 2) (by omega) _ _ _ ?_ ?_ ?_ y _ _ ?_ ?_
  · intro a b
    blk_simp [iblk2]
    refine (congrFun hz _).trans (at3 z ?_ ?_ ?_) <;> blk_simp [e0, e3] <;> idx_bounds y <;> omega
  · intro a b
    blk_simp [iblk2]
    refine (congrFun hz _).trans (at3 z ?_ ?_ ?_) <;> blk_simp [e1, e3] <;> idx_bounds y <;> omega
  · intro a b
    blk_simp [iblk2]
    refine (congrFun hz _).trans (at3 z ?_ ?_ ?_) <;> blk_simp [e2, e3] <;> idx_bounds y <;> omega
  all_goals blk_simp [e3]

/-- The blocks' places of the second layer's attention windows. -/
theorem idx4 : ∀ t : Fin cfg4.N, win4_0.index t = ![t.val / 2, 0, t.val % 2] ∧ win4_1.index t = ![t.val / 2, 0, 2 + t.val % 2]
    ∧ win4_2.index t = ![t.val / 2, 0, 4 + t.val % 2] ∧ win4_3.index t = ![t.val / 2, t.val % 2, 0] :=
  (by decide +kernel : ∀ t : Fin grid4.N, _)

/-- The second layer's attention: the array the kernel fills. -/
theorem final4 (c : Dev nD) (z : Fin 4 → Fin 2048 → Fin 1536 → EReal)
    (hz : (V c main_v20_1 : FVec Ideal S4x2048x1536 .bf16) = fun i => z (i 0) (i 1) (i 2)) :
    (dat4 V c).arrAt 3 cfg4.N = (fun i : S4x512x2048.Idx => Model.attn (z (i 0)) (i 2) (i 1)) := by
  refine (dat4 V c).arrAt_eq_of_covers 3 _ (by decide +kernel) fun t hf y => ?_
  obtain ⟨e0, e1, e2, e3⟩ := idx4 t
  blk_simp
  rw [after4_3]
  refine attn_block _ (t.val % 2) (by omega) _ _ _ ?_ ?_ ?_ y _ _ ?_ ?_
  · intro a b
    blk_simp [iblk4]
    refine (congrFun hz _).trans (at3 z ?_ ?_ ?_) <;> blk_simp [e0, e3] <;> idx_bounds y <;> omega
  · intro a b
    blk_simp [iblk4]
    refine (congrFun hz _).trans (at3 z ?_ ?_ ?_) <;> blk_simp [e1, e3] <;> idx_bounds y <;> omega
  · intro a b
    blk_simp [iblk4]
    refine (congrFun hz _).trans (at3 z ?_ ?_ ?_) <;> blk_simp [e2, e3] <;> idx_bounds y <;> omega
  all_goals blk_simp [e3]

/-- The blocks' places of the third layer's attention windows. -/
theorem idx6 : ∀ t : Fin cfg6.N, win6_0.index t = ![t.val / 2, 0, t.val % 2] ∧ win6_1.index t = ![t.val / 2, 0, 2 + t.val % 2]
    ∧ win6_2.index t = ![t.val / 2, 0, 4 + t.val % 2] ∧ win6_3.index t = ![t.val / 2, t.val % 2, 0] :=
  (by decide +kernel : ∀ t : Fin grid6.N, _)

/-- The third layer's attention: the array the kernel fills. -/
theorem final6 (c : Dev nD) (z : Fin 4 → Fin 2048 → Fin 1536 → EReal)
    (hz : (V c main_v22_1 : FVec Ideal S4x2048x1536 .bf16) = fun i => z (i 0) (i 1) (i 2)) :
    (dat6 V c).arrAt 3 cfg6.N = (fun i : S4x512x2048.Idx => Model.attn (z (i 0)) (i 2) (i 1)) := by
  refine (dat6 V c).arrAt_eq_of_covers 3 _ (by decide +kernel) fun t hf y => ?_
  obtain ⟨e0, e1, e2, e3⟩ := idx6 t
  blk_simp
  rw [after6_3]
  refine attn_block _ (t.val % 2) (by omega) _ _ _ ?_ ?_ ?_ y _ _ ?_ ?_
  · intro a b
    blk_simp [iblk6]
    refine (congrFun hz _).trans (at3 z ?_ ?_ ?_) <;> blk_simp [e0, e3] <;> idx_bounds y <;> omega
  · intro a b
    blk_simp [iblk6]
    refine (congrFun hz _).trans (at3 z ?_ ?_ ?_) <;> blk_simp [e1, e3] <;> idx_bounds y <;> omega
  · intro a b
    blk_simp [iblk6]
    refine (congrFun hz _).trans (at3 z ?_ ?_ ?_) <;> blk_simp [e2, e3] <;> idx_bounds y <;> omega
  all_goals blk_simp [e3]

/-- The blocks' places of the fourth layer's attention windows. -/
theorem idx8 : ∀ t : Fin cfg8.N, win8_0.index t = ![t.val / 2, 0, t.val % 2] ∧ win8_1.index t = ![t.val / 2, 0, 2 + t.val % 2]
    ∧ win8_2.index t = ![t.val / 2, 0, 4 + t.val % 2] ∧ win8_3.index t = ![t.val / 2, t.val % 2, 0] :=
  (by decide +kernel : ∀ t : Fin grid8.N, _)

/-- The fourth layer's attention: the array the kernel fills. -/
theorem final8 (c : Dev nD) (z : Fin 4 → Fin 2048 → Fin 1536 → EReal)
    (hz : (V c main_v24_1 : FVec Ideal S4x2048x1536 .bf16) = fun i => z (i 0) (i 1) (i 2)) :
    (dat8 V c).arrAt 3 cfg8.N = (fun i : S4x512x2048.Idx => Model.attn (z (i 0)) (i 2) (i 1)) := by
  refine (dat8 V c).arrAt_eq_of_covers 3 _ (by decide +kernel) fun t hf y => ?_
  obtain ⟨e0, e1, e2, e3⟩ := idx8 t
  blk_simp
  rw [after8_3]
  refine attn_block _ (t.val % 2) (by omega) _ _ _ ?_ ?_ ?_ y _ _ ?_ ?_
  · intro a b
    blk_simp [iblk8]
    refine (congrFun hz _).trans (at3 z ?_ ?_ ?_) <;> blk_simp [e0, e3] <;> idx_bounds y <;> omega
  · intro a b
    blk_simp [iblk8]
    refine (congrFun hz _).trans (at3 z ?_ ?_ ?_) <;> blk_simp [e1, e3] <;> idx_bounds y <;> omega
  · intro a b
    blk_simp [iblk8]
    refine (congrFun hz _).trans (at3 z ?_ ?_ ?_) <;> blk_simp [e2, e3] <;> idx_bounds y <;> omega
  all_goals blk_simp [e3]
end
end Cert.Proof
end
-- ==== Proof.Post.lean ====
/- The kernels after attention: the feed-forward half of a layer, the next layer's queries, keys and values,
   the logits; and the first such kernel's arrays. -/
module

public import proofs.«01_k».proof.Proof.Model
public import proofs.«01_k».proof.Proof.Attn
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Proof
open Idealize.ShloMosaic Idealize.ShloMosaic.TcCoe Idealize.SL.Sem
open Cert.KernelIdeal Cert.KernelIdeal.Gen
open Cert.Model (Layer)

/-- The row after attention, as the feed-forward kernels compute it from their blocks. -/
theorem pay_resid (P : Layer) (h o : Fin 512 → EReal) (r : Fin 1024)
    (v0 : Vec Ideal S1x512x1024 .bf16) (v2 : Vec Ideal S1x512x512 .bf16) (v5 : Vec Ideal S1x1024x512 .f32) (v8 : Vec Ideal S1x1x512 .f32)
    (h0 : ∀ x : Fin 512, v0 (ix3 0 x r) = o x) (h2 : ∀ d x : Fin 512, v2 (ix3 0 d x) = P.aw d x)
    (h5 : ∀ d : Fin 512, v5 (ix3 0 r d) = h d) (h8 : ∀ d : Fin 512, v8 (ix3 0 0 d) = P.ab d) (d : Fin 512) :
    k3_pay2 v0 v2 v5 v8 (ix2 r d) = Model.resid P h o d := by
  pointwise [k3_pay2]
  simp only [h0, h2, h5, h8, Model.resid]

/-- That row normalised and scaled. -/
theorem pay_normed (P : Layer) (h o : Fin 512 → EReal) (r : Fin 1024)
    (v0 : Vec Ideal S1x512x1024 .bf16) (v2 : Vec Ideal S1x512x512 .bf16) (v5 : Vec Ideal S1x1024x512 .f32) (v8 v12 : Vec Ideal S1x1x512 .f32)
    (h0 : ∀ x : Fin 512, v0 (ix3 0 x r) = o x) (h2 : ∀ d x : Fin 512, v2 (ix3 0 d x) = P.aw d x)
    (h5 : ∀ d : Fin 512, v5 (ix3 0 r d) = h d) (h8 : ∀ d : Fin 512, v8 (ix3 0 0 d) = P.ab d)
    (h12 : ∀ d : Fin 512, v12 (ix3 0 0 d) = P.s2 d) (d : Fin 512) :
    k3_pay4 v0 v2 v5 v8 v12 (ix2 r d) = Model.normed (Model.resid P h o) d * P.s2 d := by
  pointwise [k3_pay4]
  simp only [pay_resid P h o r v0 v2 v5 v8 h0 h2 h5 h8, h12]
  rfl

/-- The feed-forward half, from the row `g` and its normalised form. -/
theorem pay_ffn (P : Layer) (g : Fin 512 → EReal) (r : Fin 1024)
    (v11 : FVec Ideal S1024x512 .f32) (v15 : FVec Ideal S1x512 .f32) (v33 : FVec Ideal S1024x512 .f32) (v37 : Vec Ideal S1x2048x512 .bf16)
    (v40 : Vec Ideal S1x1x2048 .f32) (v53 : Vec Ideal S1x512x2048 .bf16) (v56 : Vec Ideal S1x1x512 .f32)
    (h11 : ∀ d : Fin 512, v11 (ix2 r d) = g d) (h15 : ∀ d : Fin 512, v15 (ix2 0 d) = P.b2 d)
    (h33 : ∀ d : Fin 512, v33 (ix2 r d) = Model.normed g d * P.s2 d)
    (h37 : ∀ (j : Fin 2048) (d : Fin 512), v37 (ix3 0 j d) = P.w1 j d) (h40 : ∀ j : Fin 2048, v40 (ix3 0 0 j) = P.c1 j)
    (h53 : ∀ (d : Fin 512) (j : Fin 2048), v53 (ix3 0 d j) = P.w2 d j) (h56 : ∀ d : Fin 512, v56 (ix3 0 0 d) = P.c2 d) (d : Fin 512) :
    k3_pay5 v11 v15 v33 v37 v40 v53 v56 (ix2 r d) = Model.ffn P g d := by
  pointwise [k3_pay5]
  simp only [h11, h15, h33, h37, h40, h53, h56]
  rfl

/-- The next layer's queries, keys and values from a row `f`. -/
theorem pay_qkv (P : Layer) (f : Fin 512 → EReal) (r : Fin 1024)
    (v60 : FVec Ideal S1024x512 .f32) (v65 : FVec Ideal S1x512 .f32) (v66 : Vec Ideal S1x1x512 .f32) (v68 : Vec Ideal S1x1536x512 .bf16) (v70 : Vec Ideal S1x1x1536 .f32)
    (h60 : ∀ d : Fin 512, v60 (ix2 r d) = f d) (h65 : ∀ d : Fin 512, v65 (ix2 0 d) = P.s1 d) (h66 : ∀ d : Fin 512, v66 (ix3 0 0 d) = P.b1 d)
    (h68 : ∀ (j : Fin 1536) (d : Fin 512), v68 (ix3 0 j d) = P.qw j d) (h70 : ∀ j : Fin 1536, v70 (ix3 0 0 j) = P.qb j) (j : Fin 1536) :
    k3_pay1 v60 v65 v66 v68 v70 (ix3 0 r j) = Model.qkv P f j := by
  pointwise [k3_pay1]
  simp only [h60, h65, h66, h68, h70]
  rfl

/-- What the blocks of a feed-forward kernel hold of a layer's parameters. -/
structure Holds (P : Layer) (x2 : Vec Ideal S1x512x512 .bf16) (x3 x4 x5 : Vec Ideal S1x1x512 .f32) (x6 : Vec Ideal S1x2048x512 .bf16)
    (x7 : Vec Ideal S1x1x2048 .f32) (x8 : Vec Ideal S1x512x2048 .bf16) (x9 : Vec Ideal S1x1x512 .f32) : Prop where
  h2 : ∀ d x : Fin 512, x2 (ix3 0 d x) = P.aw d x
  h3 : ∀ d : Fin 512, x3 (ix3 0 0 d) = P.ab d
  h4 : ∀ d : Fin 512, x4 (ix3 0 0 d) = P.s2 d
  h5 : ∀ d : Fin 512, x5 (ix3 0 0 d) = P.b2 d
  h6 : ∀ (j : Fin 2048) (d : Fin 512), x6 (ix3 0 j d) = P.w1 j d
  h7 : ∀ j : Fin 2048, x7 (ix3 0 0 j) = P.c1 j
  h8 : ∀ (d : Fin 512) (j : Fin 2048), x8 (ix3 0 d j) = P.w2 d j
  h9 : ∀ d : Fin 512, x9 (ix3 0 0 d) = P.c2 d

/-- What the blocks of a feed-forward kernel hold of the next layer's parameters. -/
structure HoldsNext (P : Layer) (x10 x11 : Vec Ideal S1x1x512 .f32) (x12 : Vec Ideal S1x1536x512 .bf16) (x13 : Vec Ideal S1x1x1536 .f32) : Prop where
  h10 : ∀ d : Fin 512, x10 (ix3 0 0 d) = P.s1 d
  h11 : ∀ d : Fin 512, x11 (ix3 0 0 d) = P.b1 d
  h12 : ∀ (j : Fin 1536) (d : Fin 512), x12 (ix3 0 j d) = P.qw j d
  h13 : ∀ j : Fin 1536, x13 (ix3 0 0 j) = P.qb j

section
variable (P P' : Layer) (h o : Fin 512 → EReal)
  (x0 : Vec Ideal S1x1024x512 .f32) (x1 : Vec Ideal S1x512x1024 .bf16) (x2 : Vec Ideal S1x512x512 .bf16) (x3 x4 x5 : Vec Ideal S1x1x512 .f32)
  (x6 : Vec Ideal S1x2048x512 .bf16) (x7 : Vec Ideal S1x1x2048 .f32) (x8 : Vec Ideal S1x512x2048 .bf16) (x9 x10 x11 : Vec Ideal S1x1x512 .f32)
  (x12 : Vec Ideal S1x1536x512 .bf16) (x13 : Vec Ideal S1x1x1536 .f32)

/-- The row a feed-forward kernel computes from the blocks it loads. -/
theorem loaded_ffn (H : Holds P x2 x3 x4 x5 x6 x7 x8 x9) (r : Fin 1024)
    (h0 : ∀ d : Fin 512, x0 (ix3 0 r d) = h d) (h1 : ∀ d : Fin 512, x1 (ix3 0 d r) = o d) (d : Fin 512) :
    k3_pay5 (k3_pay2 (View.ld x1 r3_0) (View.ld x2 r3_1) (View.ld x0 r3_2) (View.ld x3 r3_3)) (k3_pay3 (View.ld x5 r3_3))
      (k3_pay4 (View.ld x1 r3_0) (View.ld x2 r3_1) (View.ld x0 r3_2) (View.ld x3 r3_3) (View.ld x4 r3_3))
      (View.ld x6 r3_4) (View.ld x7 r3_5) (View.ld x8 r3_6) (View.ld x9 r3_3) (ix2 r d) = Model.ffn P (Model.resid P h o) d := by
  have g0 : ∀ d : Fin 512, View.ld x0 r3_2 (ix3 0 r d) = h d := fun d => by pointwise []; exact h0 d
  have g1 : ∀ d : Fin 512, View.ld x1 r3_0 (ix3 0 d r) = o d := fun d => by pointwise []; exact h1 d
  have g2 : ∀ d x : Fin 512, View.ld x2 r3_1 (ix3 0 d x) = P.aw d x := fun d x => by pointwise []; exact H.h2 d x
  have g3 : ∀ d : Fin 512, View.ld x3 r3_3 (ix3 0 0 d) = P.ab d := fun d => by pointwise []; exact H.h3 d
  have g4 : ∀ d : Fin 512, View.ld x4 r3_3 (ix3 0 0 d) = P.s2 d := fun d => by pointwise []; exact H.h4 d
  refine pay_ffn P (Model.resid P h o) r _ _ _ _ _ _ _ (pay_resid P h o r _ _ _ _ g1 g2 g0 g3) (fun d => ?_)
    (pay_normed P h o r _ _ _ _ _ g1 g2 g0 g3 g4) (fun j d => ?_) (fun j => ?_) (fun d j => ?_) (fun d => ?_) d
  · pointwise [k3_pay3]; exact H.h5 d
  · pointwise []; exact H.h6 j d
  · pointwise []; exact H.h7 j
  · pointwise []; exact H.h8 d j
  · pointwise []; exact H.h9 d

/-- What a feed-forward kernel stores as the next row. -/
theorem out_row (H : Holds P x2 x3 x4 x5 x6 x7 x8 x9) (y : S1x1024x512.Idx) (d : Fin 512) (hd : (d : ℕ) = y 2)
    (h0 : ∀ d : Fin 512, x0 (ix3 0 (y 1) d) = h d) (h1 : ∀ d : Fin 512, x1 (ix3 0 d (y 1)) = o d) :
    out3_14 x0 x1 x2 x3 x4 x5 x6 x7 x8 x9 x10 x11 x12 x13 y = Model.ffn P (Model.resid P h o) d := by
  idx_vars y
  unfold_out out3_14
  canon_tiles i hi
  idx_vars i
  obtain rfl : y1 = i1 := Fin.ext hi1
  obtain rfl : d = i2 := Fin.ext (hd.trans hi2)
  pointwise [k3_pay6]
  exact loaded_ffn P h o _ _ _ _ _ _ _ _ _ _ H _ h0 h1 _

/-- What a feed-forward kernel stores for the next layer's attention. -/
theorem out_qkv (H : Holds P x2 x3 x4 x5 x6 x7 x8 x9) (H' : HoldsNext P' x10 x11 x12 x13) (y : S1x1024x1536.Idx) (j : Fin 1536) (hj : (j : ℕ) = y 2)
    (h0 : ∀ d : Fin 512, x0 (ix3 0 (y 1) d) = h d) (h1 : ∀ d : Fin 512, x1 (ix3 0 d (y 1)) = o d) :
    out3_15 x0 x1 x2 x3 x4 x5 x6 x7 x8 x9 x10 x11 x12 x13 y = Model.qkv P' (Model.ffn P (Model.resid P h o)) j := by
  idx_vars y
  unfold_out out3_15
  canon_tiles i hi
  idx_vars i
  obtain rfl : y1 = i1 := Fin.ext hi1
  obtain rfl : j = i2 := Fin.ext (hj.trans hi2)
  obtain rfl : i0 = 0 := Subsingleton.elim _ _
  refine pay_qkv P' _ _ _ _ _ _ _ (loaded_ffn P h o _ _ _ _ _ _ _ _ _ _ H _ h0 h1) (fun d => ?_) (fun d => ?_) (fun j d => ?_) (fun j => ?_) _
  · pointwise [k3_pay7]; exact H'.h10 d
  · pointwise []; exact H'.h11 d
  · pointwise []; exact H'.h12 j d
  · pointwise []; exact H'.h13 j

/-- The last kernel's logits are products with the row its feed-forward half computes. -/
theorem pay_logits (v11 : FVec Ideal S1024x512 .f32) (v15 : FVec Ideal S1x512 .f32) (v33 : FVec Ideal S1024x512 .f32) (v37 : Vec Ideal S1x2048x512 .bf16)
    (v40 : Vec Ideal S1x1x2048 .f32) (v53 : Vec Ideal S1x512x2048 .bf16) (v56 : Vec Ideal S1x1x512 .f32) (xw : Vec Ideal S258x512 .bf16)
    (a : Fin 1) (r : Fin 1024) (j : Fin 258) :
    k9_pay1 v11 v15 v33 v37 v40 v53 v56 xw (ix3 a r j) = ∑ d : Fin 512, k3_pay5 v11 v15 v33 v37 v40 v53 v56 (ix2 r d) * xw (ix2 j d) := by
  pointwise [k9_pay1, k3_pay5]

/-- What the last kernel stores: the logits of the row after the last layer. -/
theorem out_logits (ow : Fin 258 → Fin 512 → EReal) (xw : Vec Ideal S258x512 .bf16) (H : Holds P x2 x3 x4 x5 x6 x7 x8 x9)
    (hw : ∀ (v : Fin 258) (d : Fin 512), xw (ix2 v d) = ow v d) (y : S1x1024x258.Idx) (j : Fin 258) (hj : (j : ℕ) = y 2)
    (h0 : ∀ d : Fin 512, x0 (ix3 0 (y 1) d) = h d) (h1 : ∀ d : Fin 512, x1 (ix3 0 d (y 1)) = o d) :
    out9_11 x0 x1 x2 x3 x4 x5 x6 x7 x8 x9 xw y = ∑ d, Model.ffn P (Model.resid P h o) d * ow j d := by
  idx_vars y
  unfold out9_11
  canon_tiles i hi
  idx_vars i
  obtain rfl : y1 = i1 := Fin.ext hi1
  obtain rfl : j = i2 := Fin.ext (hj.trans hi2)
  refine (pay_logits _ _ _ _ _ _ _ _ _ _ _).trans (Finset.sum_congr rfl fun d _ => ?_)
  refine congrArg₂ (· * ·) (loaded_ffn P h o _ _ _ _ _ _ _ _ _ _ H _ h0 h1 d) ?_
  pointwise []
  exact hw _ d
end

/-- A function of two coordinates takes equal values at coordinates of equal numbers. -/
theorem at2 {n0 n1 : ℕ} {α : Type} (z : Fin n0 → Fin n1 → α) {a a' : Fin n0} {b b' : Fin n1}
    (ha : (a : ℕ) = a') (hb : (b : ℕ) = b') : z a b = z a' b' := by
  rw [Fin.ext ha, Fin.ext hb]

/-! ## The arrays the feed-forward kernels fill -/

/-- The parameter arrays hold the four layers `P`. -/
structure Params (V : (c : Dev nD) → (b : Ref sig .tc) → Buf (Elt Ideal) ((c : Thread nD τ).loc b)) (c : Dev nD) (P : Fin 4 → Layer) : Prop where
  s1 : (V c main_v5 : FVec Ideal S4x1x512 .f32) = fun i => (P (i 0)).s1 (i 2)
  b1 : (V c main_v6 : FVec Ideal S4x1x512 .f32) = fun i => (P (i 0)).b1 (i 2)
  qb : (V c main_v7 : FVec Ideal S4x1x1536 .f32) = fun i => (P (i 0)).qb (i 2)
  ab : (V c main_v8 : FVec Ideal S4x1x512 .f32) = fun i => (P (i 0)).ab (i 2)
  s2 : (V c main_v9 : FVec Ideal S4x1x512 .f32) = fun i => (P (i 0)).s2 (i 2)
  b2 : (V c main_v10 : FVec Ideal S4x1x512 .f32) = fun i => (P (i 0)).b2 (i 2)
  c1 : (V c main_v11 : FVec Ideal S4x1x2048 .f32) = fun i => (P (i 0)).c1 (i 2)
  c2 : (V c main_v12 : FVec Ideal S4x1x512 .f32) = fun i => (P (i 0)).c2 (i 2)
  qw : (V c main_v13 : FVec Ideal S4x1536x512 .bf16) = fun i => (P (i 0)).qw (i 1) (i 2)
  aw : (V c main_v14 : FVec Ideal S4x512x512 .bf16) = fun i => (P (i 0)).aw (i 1) (i 2)
  w1 : (V c main_v15 : FVec Ideal S4x2048x512 .bf16) = fun i => (P (i 0)).w1 (i 1) (i 2)
  w2 : (V c main_v16 : FVec Ideal S4x512x2048 .bf16) = fun i => (P (i 0)).w2 (i 1) (i 2)

section
variable (V : (c : Dev nD) → (b : Ref sig .tc) → Buf (Elt Ideal) ((c : Thread nD τ).loc b))

/-- The blocks' places of the first feed-forward kernel's windows. -/
theorem idx3 : ∀ t : Fin cfg3.N, win3_0.index t = ![t.val / 2, t.val % 2, 0] ∧ win3_1.index t = ![t.val / 2, 0, t.val % 2] ∧
    (win3_2.index t = ![0, 0, 0] ∧ win3_3.index t = ![0, 0, 0] ∧ win3_4.index t = ![0, 0, 0] ∧ win3_5.index t = ![0, 0, 0] ∧
     win3_6.index t = ![0, 0, 0] ∧ win3_7.index t = ![0, 0, 0] ∧ win3_8.index t = ![0, 0, 0] ∧ win3_9.index t = ![0, 0, 0]) ∧
    (win3_10.index t = ![1, 0, 0] ∧ win3_11.index t = ![1, 0, 0] ∧ win3_12.index t = ![1, 0, 0] ∧ win3_13.index t = ![1, 0, 0]) ∧
    win3_14.index t = ![t.val / 2, t.val % 2, 0] ∧ win3_15.index t = ![t.val / 2, t.val % 2, 0] :=
  (by decide +kernel : ∀ t : Fin grid3.N, _)

/-- The parameter blocks of the first feed-forward kernel. -/
theorem holds3 (c : Dev nD) (P : Fin 4 → Layer) (hP : Params V c P) (t : Fin cfg3.N) :
    Holds (P 0) (iblk3 V c 2 t) (iblk3 V c 3 t) (iblk3 V c 4 t) (iblk3 V c 5 t) (iblk3 V c 6 t) (iblk3 V c 7 t) (iblk3 V c 8 t) (iblk3 V c 9 t) := by
  obtain ⟨-, -, ⟨e2, e3, e4, e5, e6, e7, e8, e9⟩, -⟩ := idx3 t
  constructor <;> (intros; blk_simp [iblk3])
  · refine (congrFun hP.aw _).trans (at3 (fun a => (P a).aw) ?_ ?_ ?_) <;> blk_simp [e2] <;> rfl
  · refine (congrFun hP.ab _).trans (at2 (fun a => (P a).ab) ?_ ?_) <;> blk_simp [e3] <;> rfl
  · refine (congrFun hP.s2 _).trans (at2 (fun a => (P a).s2) ?_ ?_) <;> blk_simp [e4] <;> rfl
  · refine (congrFun hP.b2 _).trans (at2 (fun a => (P a).b2) ?_ ?_) <;> blk_simp [e5] <;> rfl
  · refine (congrFun hP.w1 _).trans (at3 (fun a => (P a).w1) ?_ ?_ ?_) <;> blk_simp [e6] <;> rfl
  · refine (congrFun hP.c1 _).trans (at2 (fun a => (P a).c1) ?_ ?_) <;> blk_simp [e7] <;> rfl
  · refine (congrFun hP.w2 _).trans (at3 (fun a => (P a).w2) ?_ ?_ ?_) <;> blk_simp [e8] <;> rfl
  · refine (congrFun hP.c2 _).trans (at2 (fun a => (P a).c2) ?_ ?_) <;> blk_simp [e9] <;> rfl

/-- Its blocks of the next layer's parameters. -/
theorem next3 (c : Dev nD) (P : Fin 4 → Layer) (hP : Params V c P) (t : Fin cfg3.N) :
    HoldsNext (P 1) (iblk3 V c 10 t) (iblk3 V c 11 t) (iblk3 V c 12 t) (iblk3 V c 13 t) := by
  obtain ⟨-, -, -, ⟨e10, e11, e12, e13⟩, -⟩ := idx3 t
  constructor <;> (intros; blk_simp [iblk3])
  · refine (congrFun hP.s1 _).trans (at2 (fun a => (P a).s1) ?_ ?_) <;> blk_simp [e10] <;> rfl
  · refine (congrFun hP.b1 _).trans (at2 (fun a => (P a).b1) ?_ ?_) <;> blk_simp [e11] <;> rfl
  · refine (congrFun hP.qw _).trans (at3 (fun a => (P a).qw) ?_ ?_ ?_) <;> blk_simp [e12] <;> rfl
  · refine (congrFun hP.qb _).trans (at2 (fun a => (P a).qb) ?_ ?_) <;> blk_simp [e13] <;> rfl

/-- The rows after the first layer. -/
theorem final3_row (c : Dev nD) (P : Fin 4 → Layer) (hP : Params V c P) (h o : Fin 4 → Fin 2048 → Fin 512 → EReal)
    (hh : (V c main_v18_0 : FVec Ideal S4x2048x512 .f32) = fun i => h (i 0) (i 1) (i 2))
    (ho : (V c main_v19 : FVec Ideal S4x512x2048 .bf16) = fun i => o (i 0) (i 2) (i 1)) :
    (dat3 V c).arrAt 14 cfg3.N =
      (fun i : S4x2048x512.Idx => Model.ffn (P 0) (Model.resid (P 0) (h (i 0) (i 1)) (o (i 0) (i 1))) (i 2)) := by
  refine (dat3 V c).arrAt_eq_of_covers 14 _ (by decide +kernel) fun t hf y => ?_
  obtain ⟨e0, e1, -, -, e14, e15⟩ := idx3 t
  blk_simp
  rw [after3_14]
  refine out_row (P 0) _ _ _ _ _ _ _ _ _ _ _ _ _ _ _ _ (holds3 V c P hP t) y _ ?_ ?_ ?_
  · blk_simp [e14]
  · intro d; blk_simp [iblk3]
    refine (congrFun hh _).trans (at3 h ?_ ?_ ?_) <;> blk_simp [e0, e14] <;> idx_bounds y <;> omega
  · intro d; blk_simp [iblk3]
    refine (congrFun ho _).trans (at3 o ?_ ?_ ?_) <;> blk_simp [e1, e14] <;> idx_bounds y <;> omega

/-- The second layer's queries, keys and values. -/
theorem final3_qkv (c : Dev nD) (P : Fin 4 → Layer) (hP : Params V c P) (h o : Fin 4 → Fin 2048 → Fin 512 → EReal)
    (hh : (V c main_v18_0 : FVec Ideal S4x2048x512 .f32) = fun i => h (i 0) (i 1) (i 2))
    (ho : (V c main_v19 : FVec Ideal S4x512x2048 .bf16) = fun i => o (i 0) (i 2) (i 1)) :
    (dat3 V c).arrAt 15 cfg3.N =
      (fun i : S4x2048x1536.Idx => Model.qkv (P 1) (Model.ffn (P 0) (Model.resid (P 0) (h (i 0) (i 1)) (o (i 0) (i 1)))) (i 2)) := by
  refine (dat3 V c).arrAt_eq_of_covers 15 _ (by decide +kernel) fun t hf y => ?_
  obtain ⟨e0, e1, -, -, e14, e15⟩ := idx3 t
  blk_simp
  rw [after3_15]
  refine out_qkv (P 0) (P 1) _ _ _ _ _ _ _ _ _ _ _ _ _ _ _ _ (holds3 V c P hP t) (next3 V c P hP t) y _ ?_ ?_ ?_
  · blk_simp [e15]
  · intro d; blk_simp [iblk3]
    refine (congrFun hh _).trans (at3 h ?_ ?_ ?_) <;> blk_simp [e0, e15] <;> idx_bounds y <;> omega
  · intro d; blk_simp [iblk3]
    refine (congrFun ho _).trans (at3 o ?_ ?_ ?_) <;> blk_simp [e1, e15] <;> idx_bounds y <;> omega
end
end Cert.Proof
end
-- ==== Proof.Post5.lean ====
/- The arrays of the kernel that follows the second attention. -/
module

public import proofs.«01_k».proof.Proof.Model
public import proofs.«01_k».proof.Proof.Post
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Proof
open Idealize.ShloMosaic Idealize.ShloMosaic.TcCoe Idealize.SL.Sem
open Cert.KernelIdeal Cert.KernelIdeal.Gen
open Cert.Model (Layer)

variable (V : (c : Dev nD) → (b : Ref sig .tc) → Buf (Elt Ideal) ((c : Thread nD τ).loc b))

/-- The blocks' places of the second feed-forward kernel's windows. -/
theorem idx5 : ∀ t : Fin cfg5.N, win5_0.index t = ![t.val / 2, t.val % 2, 0] ∧ win5_1.index t = ![t.val / 2, 0, t.val % 2] ∧
    (win5_2.index t = ![1, 0, 0] ∧ win5_3.index t = ![1, 0, 0] ∧ win5_4.index t = ![1, 0, 0] ∧ win5_5.index t = ![1, 0, 0] ∧
     win5_6.index t = ![1, 0, 0] ∧ win5_7.index t = ![1, 0, 0] ∧ win5_8.index t = ![1, 0, 0] ∧ win5_9.index t = ![1, 0, 0]) ∧
    (win5_10.index t = ![2, 0, 0] ∧ win5_11.index t = ![2, 0, 0] ∧ win5_12.index t = ![2, 0, 0] ∧ win5_13.index t = ![2, 0, 0]) ∧
    win5_14.index t = ![t.val / 2, t.val % 2, 0] ∧ win5_15.index t = ![t.val / 2, t.val % 2, 0] :=
  (by decide +kernel : ∀ t : Fin grid5.N, _)

/-- The parameter blocks of the second feed-forward kernel. -/
theorem holds5 (c : Dev nD) (P : Fin 4 → Layer) (hP : Params V c P) (t : Fin cfg5.N) :
    Holds (P 1) (iblk5 V c 2 t) (iblk5 V c 3 t) (iblk5 V c 4 t) (iblk5 V c 5 t) (iblk5 V c 6 t) (iblk5 V c 7 t) (iblk5 V c 8 t) (iblk5 V c 9 t) := by
  obtain ⟨-, -, ⟨e2, e3, e4, e5, e6, e7, e8, e9⟩, -⟩ := idx5 t
  constructor <;> (intros; blk_simp [iblk5])
  · refine (congrFun hP.aw _).trans (at3 (fun a => (P a).aw) ?_ ?_ ?_) <;> blk_simp [e2] <;> rfl
  · refine (congrFun hP.ab _).trans (at2 (fun a => (P a).ab) ?_ ?_) <;> blk_simp [e3] <;> rfl
  · refine (congrFun hP.s2 _).trans (at2 (fun a => (P a).s2) ?_ ?_) <;> blk_simp [e4] <;> rfl
  · refine (congrFun hP.b2 _).trans (at2 (fun a => (P a).b2) ?_ ?_) <;> blk_simp [e5] <;> rfl
  · refine (congrFun hP.w1 _).trans (at3 (fun a => (P a).w1) ?_ ?_ ?_) <;> blk_simp [e6] <;> rfl
  · refine (congrFun hP.c1 _).trans (at2 (fun a => (P a).c1) ?_ ?_) <;> blk_simp [e7] <;> rfl
  · refine (congrFun hP.w2 _).trans (at3 (fun a => (P a).w2) ?_ ?_ ?_) <;> blk_simp [e8] <;> rfl
  · refine (congrFun hP.c2 _).trans (at2 (fun a => (P a).c2) ?_ ?_) <;> blk_simp [e9] <;> rfl

/-- Its blocks of the next layer's parameters. -/
theorem next5 (c : Dev nD) (P : Fin 4 → Layer) (hP : Params V c P) (t : Fin cfg5.N) :
    HoldsNext (P 2) (iblk5 V c 10 t) (iblk5 V c 11 t) (iblk5 V c 12 t) (iblk5 V c 13 t) := by
  obtain ⟨-, -, -, ⟨e10, e11, e12, e13⟩, -⟩ := idx5 t
  constructor <;> (intros; blk_simp [iblk5])
  · refine (congrFun hP.s1 _).trans (at2 (fun a => (P a).s1) ?_ ?_) <;> blk_simp [e10] <;> rfl
  · refine (congrFun hP.b1 _).trans (at2 (fun a => (P a).b1) ?_ ?_) <;> blk_simp [e11] <;> rfl
  · refine (congrFun hP.qw _).trans (at3 (fun a => (P a).qw) ?_ ?_ ?_) <;> blk_simp [e12] <;> rfl
  · refine (congrFun hP.qb _).trans (at2 (fun a => (P a).qb) ?_ ?_) <;> blk_simp [e13] <;> rfl

/-- The rows after the second layer. -/
theorem final5_row (c : Dev nD) (P : Fin 4 → Layer) (hP : Params V c P) (h o : Fin 4 → Fin 2048 → Fin 512 → EReal)
    (hh : (V c main_v20_0 : FVec Ideal S4x2048x512 .f32) = fun i => h (i 0) (i 1) (i 2))
    (ho : (V c main_v21 : FVec Ideal S4x512x2048 .bf16) = fun i => o (i 0) (i 2) (i 1)) :
    (dat5 V c).arrAt 14 cfg5.N =
      (fun i : S4x2048x512.Idx => Model.ffn (P 1) (Model.resid (P 1) (h (i 0) (i 1)) (o (i 0) (i 1))) (i 2)) := by
  refine (dat5 V c).arrAt_eq_of_covers 14 _ (by decide +kernel) fun t hf y => ?_
  obtain ⟨e0, e1, -, -, e14, e15⟩ := idx5 t
  blk_simp
  rw [after5_14, show @out5_14 Ideal _ _ = @out3_14 Ideal _ _ from rfl]
  refine out_row (P 1) _ _ _ _ _ _ _ _ _ _ _ _ _ _ _ _ (holds5 V c P hP t) y _ ?_ ?_ ?_
  · blk_simp [e14]
  · intro d; blk_simp [iblk5]
    refine (congrFun hh _).trans (at3 h ?_ ?_ ?_) <;> blk_simp [e0, e14] <;> idx_bounds y <;> omega
  · intro d; blk_simp [iblk5]
    refine (congrFun ho _).trans (at3 o ?_ ?_ ?_) <;> blk_simp [e1, e14] <;> idx_bounds y <;> omega

/-- The third layer's queries, keys and values. -/
theorem final5_qkv (c : Dev nD) (P : Fin 4 → Layer) (hP : Params V c P) (h o : Fin 4 → Fin 2048 → Fin 512 → EReal)
    (hh : (V c main_v20_0 : FVec Ideal S4x2048x512 .f32) = fun i => h (i 0) (i 1) (i 2))
    (ho : (V c main_v21 : FVec Ideal S4x512x2048 .bf16) = fun i => o (i 0) (i 2) (i 1)) :
    (dat5 V c).arrAt 15 cfg5.N =
      (fun i : S4x2048x1536.Idx => Model.qkv (P 2) (Model.ffn (P 1) (Model.resid (P 1) (h (i 0) (i 1)) (o (i 0) (i 1)))) (i 2)) := by
  refine (dat5 V c).arrAt_eq_of_covers 15 _ (by decide +kernel) fun t hf y => ?_
  obtain ⟨e0, e1, -, -, e14, e15⟩ := idx5 t
  blk_simp
  rw [after5_15, show @out5_15 Ideal _ _ = @out3_15 Ideal _ _ from rfl]
  refine out_qkv (P 1) (P 2) _ _ _ _ _ _ _ _ _ _ _ _ _ _ _ _ (holds5 V c P hP t) (next5 V c P hP t) y _ ?_ ?_ ?_
  · blk_simp [e15]
  · intro d; blk_simp [iblk5]
    refine (congrFun hh _).trans (at3 h ?_ ?_ ?_) <;> blk_simp [e0, e15] <;> idx_bounds y <;> omega
  · intro d; blk_simp [iblk5]
    refine (congrFun ho _).trans (at3 o ?_ ?_ ?_) <;> blk_simp [e1, e15] <;> idx_bounds y <;> omega
end Cert.Proof
end
-- ==== Proof.Post7.lean ====
/- The arrays of the kernel that follows the third attention. -/
module

public import proofs.«01_k».proof.Proof.Model
public import proofs.«01_k».proof.Proof.Post
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Proof
open Idealize.ShloMosaic Idealize.ShloMosaic.TcCoe Idealize.SL.Sem
open Cert.KernelIdeal Cert.KernelIdeal.Gen
open Cert.Model (Layer)

variable (V : (c : Dev nD) → (b : Ref sig .tc) → Buf (Elt Ideal) ((c : Thread nD τ).loc b))

/-- The blocks' places of the third feed-forward kernel's windows. -/
theorem idx7 : ∀ t : Fin cfg7.N, win7_0.index t = ![t.val / 2, t.val % 2, 0] ∧ win7_1.index t = ![t.val / 2, 0, t.val % 2] ∧
    (win7_2.index t = ![2, 0, 0] ∧ win7_3.index t = ![2, 0, 0] ∧ win7_4.index t = ![2, 0, 0] ∧ win7_5.index t = ![2, 0, 0] ∧
     win7_6.index t = ![2, 0, 0] ∧ win7_7.index t = ![2, 0, 0] ∧ win7_8.index t = ![2, 0, 0] ∧ win7_9.index t = ![2, 0, 0]) ∧
    (win7_10.index t = ![3, 0, 0] ∧ win7_11.index t = ![3, 0, 0] ∧ win7_12.index t = ![3, 0, 0] ∧ win7_13.index t = ![3, 0, 0]) ∧
    win7_14.index t = ![t.val / 2, t.val % 2, 0] ∧ win7_15.index t = ![t.val / 2, t.val % 2, 0] :=
  (by decide +kernel : ∀ t : Fin grid7.N, _)

/-- The parameter blocks of the third feed-forward kernel. -/
theorem holds7 (c : Dev nD) (P : Fin 4 → Layer) (hP : Params V c P) (t : Fin cfg7.N) :
    Holds (P 2) (iblk7 V c 2 t) (iblk7 V c 3 t) (iblk7 V c 4 t) (iblk7 V c 5 t) (iblk7 V c 6 t) (iblk7 V c 7 t) (iblk7 V c 8 t) (iblk7 V c 9 t) := by
  obtain ⟨-, -, ⟨e2, e3, e4, e5, e6, e7, e8, e9⟩, -⟩ := idx7 t
  constructor <;> (intros; blk_simp [iblk7])
  · refine (congrFun hP.aw _).trans (at3 (fun a => (P a).aw) ?_ ?_ ?_) <;> blk_simp [e2] <;> rfl
  · refine (congrFun hP.ab _).trans (at2 (fun a => (P a).ab) ?_ ?_) <;> blk_simp [e3] <;> rfl
  · refine (congrFun hP.s2 _).trans (at2 (fun a => (P a).s2) ?_ ?_) <;> blk_simp [e4] <;> rfl
  · refine (congrFun hP.b2 _).trans (at2 (fun a => (P a).b2) ?_ ?_) <;> blk_simp [e5] <;> rfl
  · refine (congrFun hP.w1 _).trans (at3 (fun a => (P a).w1) ?_ ?_ ?_) <;> blk_simp [e6] <;> rfl
  · refine (congrFun hP.c1 _).trans (at2 (fun a => (P a).c1) ?_ ?_) <;> blk_simp [e7] <;> rfl
  · refine (congrFun hP.w2 _).trans (at3 (fun a => (P a).w2) ?_ ?_ ?_) <;> blk_simp [e8] <;> rfl
  · refine (congrFun hP.c2 _).trans (at2 (fun a => (P a).c2) ?_ ?_) <;> blk_simp [e9] <;> rfl

/-- Its blocks of the next layer's parameters. -/
theorem next7 (c : Dev nD) (P : Fin 4 → Layer) (hP : Params V c P) (t : Fin cfg7.N) :
    HoldsNext (P 3) (iblk7 V c 10 t) (iblk7 V c 11 t) (iblk7 V c 12 t) (iblk7 V c 13 t) := by
  obtain ⟨-, -, -, ⟨e10, e11, e12, e13⟩, -⟩ := idx7 t
  constructor <;> (intros; blk_simp [iblk7])
  · refine (congrFun hP.s1 _).trans (at2 (fun a => (P a).s1) ?_ ?_) <;> blk_simp [e10] <;> rfl
  · refine (congrFun hP.b1 _).trans (at2 (fun a => (P a).b1) ?_ ?_) <;> blk_simp [e11] <;> rfl
  · refine (congrFun hP.qw _).trans (at3 (fun a => (P a).qw) ?_ ?_ ?_) <;> blk_simp [e12] <;> rfl
  · refine (congrFun hP.qb _).trans (at2 (fun a => (P a).qb) ?_ ?_) <;> blk_simp [e13] <;> rfl

/-- The rows after the third layer. -/
theorem final7_row (c : Dev nD) (P : Fin 4 → Layer) (hP : Params V c P) (h o : Fin 4 → Fin 2048 → Fin 512 → EReal)
    (hh : (V c main_v22_0 : FVec Ideal S4x2048x512 .f32) = fun i => h (i 0) (i 1) (i 2))
    (ho : (V c main_v23 : FVec Ideal S4x512x2048 .bf16) = fun i => o (i 0) (i 2) (i 1)) :
    (dat7 V c).arrAt 14 cfg7.N =
      (fun i : S4x2048x512.Idx => Model.ffn (P 2) (Model.resid (P 2) (h (i 0) (i 1)) (o (i 0) (i 1))) (i 2)) := by
  refine (dat7 V c).arrAt_eq_of_covers 14 _ (by decide +kernel) fun t hf y => ?_
  obtain ⟨e0, e1, -, -, e14, e15⟩ := idx7 t
  blk_simp
  rw [after7_14, show @out7_14 Ideal _ _ = @out3_14 Ideal _ _ from rfl]
  refine out_row (P 2) _ _ _ _ _ _ _ _ _ _ _ _ _ _ _ _ (holds7 V c P hP t) y _ ?_ ?_ ?_
  · blk_simp [e14]
  · intro d; blk_simp [iblk7]
    refine (congrFun hh _).trans (at3 h ?_ ?_ ?_) <;> blk_simp [e0, e14] <;> idx_bounds y <;> omega
  · intro d; blk_simp [iblk7]
    refine (congrFun ho _).trans (at3 o ?_ ?_ ?_) <;> blk_simp [e1, e14] <;> idx_bounds y <;> omega

/-- The fourth layer's queries, keys and values. -/
theorem final7_qkv (c : Dev nD) (P : Fin 4 → Layer) (hP : Params V c P) (h o : Fin 4 → Fin 2048 → Fin 512 → EReal)
    (hh : (V c main_v22_0 : FVec Ideal S4x2048x512 .f32) = fun i => h (i 0) (i 1) (i 2))
    (ho : (V c main_v23 : FVec Ideal S4x512x2048 .bf16) = fun i => o (i 0) (i 2) (i 1)) :
    (dat7 V c).arrAt 15 cfg7.N =
      (fun i : S4x2048x1536.Idx => Model.qkv (P 3) (Model.ffn (P 2) (Model.resid (P 2) (h (i 0) (i 1)) (o (i 0) (i 1)))) (i 2)) := by
  refine (dat7 V c).arrAt_eq_of_covers 15 _ (by decide +kernel) fun t hf y => ?_
  obtain ⟨e0, e1, -, -, e14, e15⟩ := idx7 t
  blk_simp
  rw [after7_15, show @out7_15 Ideal _ _ = @out3_15 Ideal _ _ from rfl]
  refine out_qkv (P 2) (P 3) _ _ _ _ _ _ _ _ _ _ _ _ _ _ _ _ (holds7 V c P hP t) (next7 V c P hP t) y _ ?_ ?_ ?_
  · blk_simp [e15]
  · intro d; blk_simp [iblk7]
    refine (congrFun hh _).trans (at3 h ?_ ?_ ?_) <;> blk_simp [e0, e15] <;> idx_bounds y <;> omega
  · intro d; blk_simp [iblk7]
    refine (congrFun ho _).trans (at3 o ?_ ?_ ?_) <;> blk_simp [e1, e15] <;> idx_bounds y <;> omega
end Cert.Proof
end
-- ==== Proof.Post9.lean ====
/- The array of the last kernel: the logits. -/
module

public import proofs.«01_k».proof.Proof.Model
public import proofs.«01_k».proof.Proof.Post
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Proof
open Idealize.ShloMosaic Idealize.ShloMosaic.TcCoe Idealize.SL.Sem
open Cert.KernelIdeal Cert.KernelIdeal.Gen
open Cert.Model (Layer)

variable (V : (c : Dev nD) → (b : Ref sig .tc) → Buf (Elt Ideal) ((c : Thread nD τ).loc b))

/-- The blocks' places of the last kernel's windows. -/
theorem idx9 : ∀ t : Fin cfg9.N, win9_0.index t = ![t.val / 2, t.val % 2, 0] ∧ win9_1.index t = ![t.val / 2, 0, t.val % 2] ∧
    (win9_2.index t = ![3, 0, 0] ∧ win9_3.index t = ![3, 0, 0] ∧ win9_4.index t = ![3, 0, 0] ∧ win9_5.index t = ![3, 0, 0] ∧
     win9_6.index t = ![3, 0, 0] ∧ win9_7.index t = ![3, 0, 0] ∧ win9_8.index t = ![3, 0, 0] ∧ win9_9.index t = ![3, 0, 0]) ∧
    win9_10.index t = ![0, 0] ∧ win9_11.index t = ![t.val / 2, t.val % 2, 0] :=
  (by decide +kernel : ∀ t : Fin grid9.N, _)

/-- The parameter blocks of the last kernel. -/
theorem holds9 (c : Dev nD) (P : Fin 4 → Layer) (hP : Params V c P) (t : Fin cfg9.N) :
    Holds (P 3) (iblk9 V c 2 t) (iblk9 V c 3 t) (iblk9 V c 4 t) (iblk9 V c 5 t) (iblk9 V c 6 t) (iblk9 V c 7 t) (iblk9 V c 8 t) (iblk9 V c 9 t) := by
  obtain ⟨-, -, ⟨e2, e3, e4, e5, e6, e7, e8, e9⟩, -⟩ := idx9 t
  constructor <;> (intros; blk_simp [iblk9])
  · refine (congrFun hP.aw _).trans (at3 (fun a => (P a).aw) ?_ ?_ ?_) <;> blk_simp [e2] <;> rfl
  · refine (congrFun hP.ab _).trans (at2 (fun a => (P a).ab) ?_ ?_) <;> blk_simp [e3] <;> rfl
  · refine (congrFun hP.s2 _).trans (at2 (fun a => (P a).s2) ?_ ?_) <;> blk_simp [e4] <;> rfl
  · refine (congrFun hP.b2 _).trans (at2 (fun a => (P a).b2) ?_ ?_) <;> blk_simp [e5] <;> rfl
  · refine (congrFun hP.w1 _).trans (at3 (fun a => (P a).w1) ?_ ?_ ?_) <;> blk_simp [e6] <;> rfl
  · refine (congrFun hP.c1 _).trans (at2 (fun a => (P a).c1) ?_ ?_) <;> blk_simp [e7] <;> rfl
  · refine (congrFun hP.w2 _).trans (at3 (fun a => (P a).w2) ?_ ?_ ?_) <;> blk_simp [e8] <;> rfl
  · refine (congrFun hP.c2 _).trans (at2 (fun a => (P a).c2) ?_ ?_) <;> blk_simp [e9] <;> rfl

/-- The logits. -/
theorem final9 (c : Dev nD) (P : Fin 4 → Layer) (hP : Params V c P) (h o : Fin 4 → Fin 2048 → Fin 512 → EReal) (ow : Fin 258 → Fin 512 → EReal)
    (hh : (V c main_v24_0 : FVec Ideal S4x2048x512 .f32) = fun i => h (i 0) (i 1) (i 2))
    (ho : (V c main_v25 : FVec Ideal S4x512x2048 .bf16) = fun i => o (i 0) (i 2) (i 1))
    (hw : (V c main_v17 : FVec Ideal S258x512 .bf16) = fun i => ow (i 0) (i 1)) :
    (dat9 V c).arrAt 11 cfg9.N =
      (fun i : S4x2048x258.Idx => ∑ d, Model.ffn (P 3) (Model.resid (P 3) (h (i 0) (i 1)) (o (i 0) (i 1))) d * ow (i 2) d) := by
  refine (dat9 V c).arrAt_eq_of_covers 11 _ (by decide +kernel) fun t hf y => ?_
  obtain ⟨e0, e1, -, e10, e11⟩ := idx9 t
  blk_simp
  rw [after9_11]
  refine out_logits (P 3) _ _ _ _ _ _ _ _ _ _ _ _ ow _ (holds9 V c P hP t) ?_ y _ ?_ ?_ ?_
  · intro v d; blk_simp [iblk9]
    refine (congrFun hw _).trans (at2 ow ?_ ?_) <;> blk_simp [e10]
  · blk_simp [e11]
  · intro d; blk_simp [iblk9]
    refine (congrFun hh _).trans (at3 h ?_ ?_ ?_) <;> blk_simp [e0, e11] <;> idx_bounds y <;> omega
  · intro d; blk_simp [iblk9]
    refine (congrFun ho _).trans (at3 o ?_ ?_ ?_) <;> blk_simp [e1, e11] <;> idx_bounds y <;> omega
end Cert.Proof
end
-- ==== Proof.Embed.lean ====
/- The embedding kernel: the rows the layers start with, and the first layer's queries, keys and values. -/
module

public import proofs.«01_k».proof.Proof.Model
public import proofs.«01_k».proof.Proof.Post
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Proof
open Idealize.ShloMosaic Idealize.ShloMosaic.TcCoe Idealize.SL.Sem
open Cert.KernelIdeal Cert.KernelIdeal.Gen
open Cert.Model (Layer start)

/-- One entry of the one-hot row of token `x`. -/
theorem one_hot (y x : Fin 258) : (FloatOps.sitofp (F := Ideal) .f32 (BitVec.setWidth 32 (IntOp.cmpi .eq (BitVec.ofNat 32 y) (BitVec.ofNat 32 x))) : EReal)
    = if y = x then 1 else 0 := by
  have hs : ∀ b : BitVec 32, (FloatOps.sitofp (F := Ideal) .f32 b : EReal) = ((b.toInt : ℝ) : EReal) := fun _ => rfl
  by_cases h : y = x
  · subst h
    simp [IntOp.cmpi, hs]
  · have hne : (BitVec.ofNat 32 (y : ℕ) == BitVec.ofNat 32 (x : ℕ)) = false := by
      rw [beq_eq_false_iff_ne]
      intro e
      have := congrArg BitVec.toNat e
      simp only [BitVec.toNat_ofNat] at this
      exact h (Fin.ext (by omega))
    simp [IntOp.cmpi, hs, hne, h]

/-- The embedding kernel's row: the product with the one-hot row picks the token's row of the table. -/
theorem pay_embed (emb : Fin 258 → Fin 512 → EReal) (w b : Fin 512 → EReal) (x : Fin 258) (e : EReal) (r : Fin 2048)
    (v0 : Vec Ideal S1x2048x1 .i32) (v7 : Vec Ideal S258x512 .f32) (v9 : Vec Ideal S1x2048x1 .f32) (v11 v17 : Vec Ideal S1x512 .f32)
    (h0 : v0 (ix3 0 r 0) = BitVec.ofNat 32 x) (h7 : ∀ (y : Fin 258) (d : Fin 512), v7 (ix2 y d) = emb y d) (h9 : v9 (ix3 0 r 0) = e)
    (h11 : ∀ d : Fin 512, v11 (ix2 0 d) = w d) (h17 : ∀ d : Fin 512, v17 (ix2 0 d) = b d) (d : Fin 512) :
    k1_pay2 v0 v7 v9 v11 v17 (ix2 r d) = start emb w b x e d := by
  pointwise [k1_pay2]
  simp only [h0, h7, h9, h11, h17, one_hot, start, ite_mul, one_mul, zero_mul, Finset.sum_ite_eq', Finset.mem_univ, if_true]

/-- The first layer's queries, keys and values from a row `f`. -/
theorem pay_qkv1 (P : Layer) (f : Fin 512 → EReal) (r : Fin 2048)
    (v60 : FVec Ideal S2048x512 .f32) (v65 v66 : FVec Ideal S1x512 .f32) (v68 : FVec Ideal S1536x512 .bf16) (v70 : Vec Ideal S1x1x1536 .f32)
    (h60 : ∀ d : Fin 512, v60 (ix2 r d) = f d) (h65 : ∀ d : Fin 512, v65 (ix2 0 d) = P.s1 d) (h66 : ∀ d : Fin 512, v66 (ix2 0 d) = P.b1 d)
    (h68 : ∀ (j : Fin 1536) (d : Fin 512), v68 (ix2 j d) = P.qw j d) (h70 : ∀ j : Fin 1536, v70 (ix3 0 0 j) = P.qb j) (j : Fin 1536) :
    k1_pay1 v60 v65 v66 v68 v70 (ix3 0 r j) = Model.qkv P f j := by
  pointwise [k1_pay1]
  simp only [h60, h65, h66, h68, h70]
  rfl

/-- What the embedding kernel's blocks hold, for row `r`. -/
structure HoldsRow (emb : Fin 258 → Fin 512 → EReal) (w b : Fin 512 → EReal) (x : Fin 258) (e : EReal) (r : Fin 2048)
    (x0 : Vec Ideal S1x2048x1 .i32) (x1 : Vec Ideal S1x2048x1 .f32) (x2 : Vec Ideal S258x512 .f32) (x3 x4 : Vec Ideal S1x512 .f32) : Prop where
  h0 : x0 (ix3 0 r 0) = BitVec.ofNat 32 x
  h1 : x1 (ix3 0 r 0) = e
  h2 : ∀ (y : Fin 258) (d : Fin 512), x2 (ix2 y d) = emb y d
  h3 : ∀ d : Fin 512, x3 (ix2 0 d) = w d
  h4 : ∀ d : Fin 512, x4 (ix2 0 d) = b d

section
variable (P : Layer) (emb : Fin 258 → Fin 512 → EReal) (w b : Fin 512 → EReal) (x : Fin 258) (e : EReal)
  (x0 : Vec Ideal S1x2048x1 .i32) (x1 : Vec Ideal S1x2048x1 .f32) (x2 : Vec Ideal S258x512 .f32) (x3 x4 : Vec Ideal S1x512 .f32)
  (x5 x6 : Vec Ideal S1x1x512 .f32) (x7 : Vec Ideal S1x1536x512 .bf16) (x8 : Vec Ideal S1x1x1536 .f32)

/-- The row the embedding kernel computes from the blocks it loads. -/
theorem loaded_start (r : Fin 2048) (H : HoldsRow emb w b x e r x0 x1 x2 x3 x4) (d : Fin 512) :
    k1_pay2 (View.ld x0 r1_0) (View.ld x2 r1_1) (View.ld x1 r1_0) (View.ld x3 r1_2) (View.ld x4 r1_2) (ix2 r d) = start emb w b x e d := by
  refine pay_embed emb w b x e r _ _ _ _ _ ?_ (fun y d => ?_) ?_ (fun d => ?_) (fun d => ?_) d
  · pointwise []; exact H.h0
  · pointwise []; exact H.h2 y d
  · pointwise []; exact H.h1
  · pointwise []; exact H.h3 d
  · pointwise []; exact H.h4 d

/-- What the embedding kernel stores as the first row. -/
theorem out_start (y : S1x2048x512.Idx) (d : Fin 512) (hd : (d : ℕ) = y 2) (H : HoldsRow emb w b x e (y 1) x0 x1 x2 x3 x4) :
    out1_9 x0 x1 x2 x3 x4 x5 x6 x7 x8 y = start emb w b x e d := by
  idx_vars y
  unfold out1_9
  canon_tiles i hi
  idx_vars i
  obtain rfl : y1 = i1 := Fin.ext hi1
  obtain rfl : d = i2 := Fin.ext (hd.trans hi2)
  pointwise [k1_pay3]
  exact loaded_start emb w b x e _ _ _ _ _ _ H _

/-- What the embedding kernel stores for the first layer's attention. -/
theorem out_qkv1 (H' : HoldsNext P x5 x6 x7 x8) (y : S1x2048x1536.Idx) (j : Fin 1536) (hj : (j : ℕ) = y 2)
    (H : HoldsRow emb w b x e (y 1) x0 x1 x2 x3 x4) :
    out1_10 x0 x1 x2 x3 x4 x5 x6 x7 x8 y = Model.qkv P (start emb w b x e) j := by
  idx_vars y
  unfold out1_10
  canon_tiles i hi
  idx_vars i
  obtain rfl : y1 = i1 := Fin.ext hi1
  obtain rfl : j = i2 := Fin.ext (hj.trans hi2)
  obtain rfl : i0 = 0 := Subsingleton.elim _ _
  refine pay_qkv1 P _ _ _ _ _ _ _ (loaded_start emb w b x e _ _ _ _ _ _ H) (fun d => ?_) (fun d => ?_) (fun j d => ?_) (fun j => ?_) _
  · pointwise [k1_pay4]; exact H'.h10 d
  · pointwise [k1_pay5]; exact H'.h11 d
  · pointwise [k1_pay6]; exact H'.h12 j d
  · pointwise []; exact H'.h13 j
end

/-- The embedding kernel's own arrays hold the tokens, their entropy features, the table and the feature's weights. -/
structure Starts (V : (c : Dev nD) → (b : Ref sig .tc) → Buf (Elt Ideal) ((c : Thread nD τ).loc b)) (c : Dev nD)
    (emb : Fin 258 → Fin 512 → EReal) (w b : Fin 512 → EReal) (x : Fin 4 → Fin 2048 → Fin 258) (e : Fin 4 → Fin 2048 → EReal) : Prop where
  tok : (V c main_v1 : IVec S4x2048x1 32) = fun i => BitVec.ofNat 32 (x (i 0) (i 1))
  ent : (V c main_v2 : FVec Ideal S4x2048x1 .f32) = fun i => e (i 0) (i 1)
  emb : (V c main_arg0 : FVec Ideal S258x512 .f32) = fun i => emb (i 0) (i 1)
  w : (V c main_v3 : FVec Ideal S1x512 .f32) = fun i => w (i 1)
  b : (V c main_v4 : FVec Ideal S1x512 .f32) = fun i => b (i 1)

/-- A function of one coordinate takes equal values at coordinates of equal numbers. -/
theorem at1 {n0 : ℕ} {α : Type} (z : Fin n0 → α) {a a' : Fin n0} (ha : (a : ℕ) = a') : z a = z a' := by
  rw [Fin.ext ha]

section
variable (V : (c : Dev nD) → (b : Ref sig .tc) → Buf (Elt Ideal) ((c : Thread nD τ).loc b))

/-- The blocks' places of the embedding kernel's windows. -/
theorem idx1 : ∀ t : Fin cfg1.N, win1_0.index t = ![t.val, 0, 0] ∧ win1_1.index t = ![t.val, 0, 0] ∧ win1_2.index t = ![0, 0] ∧ win1_3.index t = ![0, 0] ∧
    win1_4.index t = ![0, 0] ∧ win1_5.index t = ![0, 0, 0] ∧ win1_6.index t = ![0, 0, 0] ∧ win1_7.index t = ![0, 0, 0] ∧ win1_8.index t = ![0, 0, 0] ∧
    win1_9.index t = ![t.val, 0, 0] ∧ win1_10.index t = ![t.val, 0, 0] :=
  (by decide +kernel : ∀ t : Fin grid1.N, _)

/-- The embedding kernel's blocks of the first layer's parameters. -/
theorem next1 (c : Dev nD) (P : Fin 4 → Layer) (hP : Params V c P) (t : Fin cfg1.N) :
    HoldsNext (P 0) (iblk1 V c 5 t) (iblk1 V c 6 t) (iblk1 V c 7 t) (iblk1 V c 8 t) := by
  obtain ⟨-, -, -, -, -, e5, e6, e7, e8, -⟩ := idx1 t
  constructor <;> (intros; blk_simp [iblk1])
  · refine (congrFun hP.s1 _).trans (at2 (fun a => (P a).s1) ?_ ?_) <;> blk_simp [e5] <;> rfl
  · refine (congrFun hP.b1 _).trans (at2 (fun a => (P a).b1) ?_ ?_) <;> blk_simp [e6] <;> rfl
  · refine (congrFun hP.qw _).trans (at3 (fun a => (P a).qw) ?_ ?_ ?_) <;> blk_simp [e7] <;> rfl
  · refine (congrFun hP.qb _).trans (at2 (fun a => (P a).qb) ?_ ?_) <;> blk_simp [e8] <;> rfl

variable {emb : Fin 258 → Fin 512 → EReal} {w b : Fin 512 → EReal} {x : Fin 4 → Fin 2048 → Fin 258} {e : Fin 4 → Fin 2048 → EReal}

/-- The embedding kernel's blocks at a grid point: one sequence's tokens and features, the whole table. -/
theorem holds1 (c : Dev nD) (hS : Starts V c emb w b x e) (t : Fin cfg1.N) (a : Fin 4) (ha : (a : ℕ) = t) (r r' : Fin 2048) (hr : (r' : ℕ) = r) :
    HoldsRow emb w b (x a r') (e a r') r (iblk1 V c 0 t) (iblk1 V c 1 t) (iblk1 V c 2 t) (iblk1 V c 3 t) (iblk1 V c 4 t) := by
  obtain ⟨e0, e1, e2, e3, e4, -⟩ := idx1 t
  constructor <;> (intros; blk_simp [iblk1])
  · refine (congrFun hS.tok _).trans (at2 (fun a r => BitVec.ofNat 32 (x a r)) ?_ ?_) <;> blk_simp [e0] <;> omega
  · refine (congrFun hS.ent _).trans (at2 e ?_ ?_) <;> blk_simp [e1] <;> omega
  · refine (congrFun hS.emb _).trans (at2 emb ?_ ?_) <;> blk_simp [e2]
  · refine (congrFun hS.w _).trans (at1 w ?_) <;> blk_simp [e3]
  · refine (congrFun hS.b _).trans (at1 b ?_) <;> blk_simp [e4]

/-- The rows the layers start with. -/
theorem final1_row (c : Dev nD) (hS : Starts V c emb w b x e) :
    (dat1 V c).arrAt 9 cfg1.N = (fun i : S4x2048x512.Idx => start emb w b (x (i 0) (i 1)) (e (i 0) (i 1)) (i 2)) := by
  refine (dat1 V c).arrAt_eq_of_covers 9 _ (by decide +kernel) fun t hf y => ?_
  obtain ⟨-, -, -, -, -, -, -, -, -, e9, e10⟩ := idx1 t
  blk_simp
  rw [after1_9]
  refine out_start emb w b _ _ _ _ _ _ _ _ _ _ _ y _ ?_ (holds1 V c hS t _ ?_ _ _ ?_)
  all_goals blk_simp [e9]
  all_goals idx_bounds y
  all_goals omega

/-- The first layer's queries, keys and values. -/
theorem final1_qkv (c : Dev nD) (P : Fin 4 → Layer) (hP : Params V c P) (hS : Starts V c emb w b x e) :
    (dat1 V c).arrAt 10 cfg1.N =
      (fun i : S4x2048x1536.Idx => Model.qkv (P 0) (start emb w b (x (i 0) (i 1)) (e (i 0) (i 1))) (i 2)) := by
  refine (dat1 V c).arrAt_eq_of_covers 10 _ (by decide +kernel) fun t hf y => ?_
  obtain ⟨-, -, -, -, -, -, -, -, -, e9, e10⟩ := idx1 t
  blk_simp
  rw [after1_10]
  refine out_qkv1 (P 0) emb w b _ _ _ _ _ _ _ _ _ _ _ (next1 V c P hP t) y _ ?_ (holds1 V c hS t _ ?_ _ _ ?_)
  all_goals blk_simp [e10]
  all_goals idx_bounds y
  all_goals omega
end
end Cert.Proof
end
-- ==== Proof.Entropy.lean ====
/- The entropy kernel: the feature of every position, as a sum over the places of its window. -/
module

public import proofs.«01_k».proof.Proof.Model
public import proofs.«01_k».proof.Proof.Embed
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Proof
open Idealize.ShloMosaic Idealize.ShloMosaic.TcCoe Idealize.SL.Sem
open Cert.KernelIdeal Cert.KernelIdeal.Gen
open Cert.Model (Layer)

/-! ## The entropy kernel -/

/-- A comparison's bit as a number. -/
theorem bit_value (c : Bool) : (FloatOps.sitofp (F := Ideal) .f32 (BitVec.setWidth 32 (BitVec.ofBool c)) : EReal) = if c then 1 else 0 := by
  have hs : ∀ b : BitVec 32, (FloatOps.sitofp (F := Ideal) .f32 b : EReal) = ((b.toInt : ℝ) : EReal) := fun _ => rfl
  cases c <;> simp [hs]

/-- A small number, read as signed, is itself. -/
theorem toInt_small (n : ℕ) (h : n < 4096) : (BitVec.ofNat 32 n).toInt = (n : ℤ) := by
  rw [BitVec.toInt_eq_toNat_of_lt] <;> simp only [BitVec.toNat_ofNat] <;> omega

/-- Whether two tokens are equal, as a number. -/
def same (u v : Fin 258) : EReal := if u = v then 1 else 0

/-- Whether a token is a byte, as a number. -/
def isByte (u : Fin 258) : EReal := if (u : ℕ) < 256 then 1 else 0

/-- A token equals itself. -/
theorem same_self (u : Fin 258) : same u u = 1 := if_pos rfl

/-- Equality of tokens is symmetric. -/
theorem same_comm (u v : Fin 258) : same u v = same v u := by simp only [same, eq_comm]

/-- The comparison of two tokens' words is the equality of the tokens. -/
theorem same_bits (u v : Fin 258) :
    (FloatOps.sitofp (F := Ideal) .f32 (BitVec.setWidth 32 (IntOp.cmpi .eq (BitVec.ofNat 32 u) (BitVec.ofNat 32 v))) : EReal) = same u v :=
  one_hot u v

/-- The comparison of a token's word with 256 says whether it is a byte. -/
theorem isByte_bits (u : Fin 258) :
    (FloatOps.sitofp (F := Ideal) .f32 (BitVec.setWidth 32 (IntOp.cmpi .slt (BitVec.ofNat 32 u) 256#32)) : EReal) = isByte u := by
  unfold IntOp.cmpi
  refine (bit_value _).trans ?_
  have h : BitVec.slt (BitVec.ofNat 32 (u : ℕ)) 256#32 = decide ((u : ℕ) < 256) := by
    rw [BitVec.slt, toInt_small _ (by omega)]
    simp
  simp only [h, isByte, decide_eq_true_eq]

/-- The comparison that keeps the positions with a whole window. -/
theorem keep_bits (t : ℕ) (h : t < 2048) : IntOp.cmpi .sle (BitVec.ofNat 32 t) 2040#32 = BitVec.ofBool (decide (t ≤ 2040)) := by
  unfold IntOp.cmpi
  have h : BitVec.sle (BitVec.ofNat 32 t) 2040#32 = decide (t ≤ 2040) := by
    rw [BitVec.sle, toInt_small _ (by omega)]
    simp
  simp only [h]

/-- The reciprocal of log 2. -/
def log2e : EReal := (((Real.log 2)⁻¹ : ℝ) : EReal)

/-- The named constant of the entropy kernel is the reciprocal of log 2. -/
theorem log2e_eq : (Named.named (F := Ideal) κ "log2e" (φ := .f32) 0x3FB8AA3B#32 : EReal) = log2e :=
  IdealRules.named_const.ideal_named_scalar _ _ _ _ rfl

/-- How often token `j` of a window occurs in it, its base-2 logarithm, counted for bytes. -/
def share (y : Fin 8 → Fin 258) (j : Fin 8) : EReal := isByte (y j) * (Ideal.log (∑ k, same (y j) (y k)) * log2e)

/-- The entropy feature of a window, as the kernel computes it. -/
def entK (y : Fin 8 → Fin 258) : EReal :=
  Ideal.ofBits .f32 0x3EC00000#32 * (∑ j, isByte (y j)) - Ideal.ofBits .f32 0x3E000000#32 * ∑ j, share y j

section
variable (x0 : Vec Ideal S4x2048 .i32) (z : FVec Ideal S4x1 .f32) (e1 e2 e3 e4 e5 e6 e7 b1 b2 b3 b4 b5 b6 b7 w s n : FVec Ideal S4x2048 .f32)
  (b : Fin 4) (X : ℕ → Fin 258)

/-- The vector compares each token with the one `d` further. -/
def Ahead (e : FVec Ideal S4x2048 .f32) (d : ℕ) : Prop := ∀ (s : ℕ) (h : s < 2048), s + d < 2048 → e (ix2 b ⟨s, h⟩) = same (X s) (X (s + d))

/-- The vector compares each token with the one `d` before. -/
def Behind (e : FVec Ideal S4x2048 .f32) (d : ℕ) : Prop := ∀ (s : ℕ) (h : s < 2048), d ≤ s → e (ix2 b ⟨s, h⟩) = same (X (s - d)) (X s)

/-- The kernel's seven shifted comparisons look 1 to 7 places ahead. -/
theorem ahead (hx : ∀ (s : ℕ) (h : s < 2048), x0 (ix2 b ⟨s, h⟩) = BitVec.ofNat 32 (X s)) :
    Ahead b X (k0_pay3 x0) 1 ∧ Ahead b X (k0_pay4 x0) 2 ∧ Ahead b X (k0_pay5 x0) 3 ∧ Ahead b X (k0_pay6 x0) 4 ∧ Ahead b X (k0_pay7 x0) 5 ∧
      Ahead b X (k0_pay8 x0) 6 ∧ Ahead b X (k0_pay9 x0) 7 := by
  refine ⟨?_, ?_, ?_, ?_, ?_, ?_, ?_⟩ <;> intro s h hs
  all_goals pointwise [k0_pay3, k0_pay4, k0_pay5, k0_pay6, k0_pay7, k0_pay8, k0_pay9, k0_pay2]
  all_goals rw [dif_pos (by omega), hx, hx, same_bits, Nat.add_comm]

/-- The same comparisons moved by their distance look 1 to 7 places behind. -/
theorem behind (h1 : Ahead b X (k0_pay3 x0) 1) (h2 : Ahead b X (k0_pay4 x0) 2) (h3 : Ahead b X e3 3) (h4 : Ahead b X e4 4) (h5 : Ahead b X e5 5)
    (h6 : Ahead b X e6 6) (h7 : Ahead b X e7 7) :
    Behind b X (k0_pay11 x0) 1 ∧ Behind b X (k0_pay12 x0) 2 ∧ Behind b X (k0_pay13 e3 z) 3 ∧ Behind b X (k0_pay14 e4 z) 4 ∧ Behind b X (k0_pay15 e5 z) 5 ∧
      Behind b X (k0_pay16 e6 z) 6 ∧ Behind b X (k0_pay17 e7 z) 7 := by
  refine ⟨?_, ?_, ?_, ?_, ?_, ?_, ?_⟩ <;> intro s h hs
  all_goals pointwise [k0_pay11, k0_pay12, k0_pay13, k0_pay14, k0_pay15, k0_pay16, k0_pay17, k0_pay10]
  all_goals rw [dif_neg (by omega)]
  · rw [h1 _ _ (by omega), Nat.sub_add_cancel hs]
  · rw [h2 _ _ (by omega), Nat.sub_add_cancel hs]
  · rw [h3 _ _ (by omega), Nat.sub_add_cancel hs]
  · rw [h4 _ _ (by omega), Nat.sub_add_cancel hs]
  · rw [h5 _ _ (by omega), Nat.sub_add_cancel hs]
  · rw [h6 _ _ (by omega), Nat.sub_add_cancel hs]
  · rw [h7 _ _ (by omega), Nat.sub_add_cancel hs]

set_option maxHeartbeats 4000000 in
/-- The kernel's summands, one per place `j` of the window that starts at `t`. -/
theorem terms (t : ℕ) (ht : t ≤ 2040) (Y : Fin 8 → Fin 258) (hY : ∀ (k : Fin 8) (a : ℕ), a = t + k → X a = Y k)
    (hx : ∀ (s : ℕ) (h : s < 2048), x0 (ix2 b ⟨s, h⟩) = BitVec.ofNat 32 (X s))
    (hw : ∀ (s : ℕ) (h : s < 2048), w (ix2 b ⟨s, h⟩) = isByte (X s))
    (h1 : Ahead b X e1 1) (h2 : Ahead b X e2 2) (h3 : Ahead b X e3 3) (h4 : Ahead b X e4 4) (h5 : Ahead b X e5 5) (h6 : Ahead b X e6 6) (h7 : Ahead b X e7 7)
    (g1 : Behind b X b1 1) (g2 : Behind b X b2 2) (g3 : Behind b X b3 3) (g4 : Behind b X b4 4) (g5 : Behind b X b5 5) (g6 : Behind b X b6 6) (g7 : Behind b X b7 7) :
    k0_pay1 z b1 b2 b3 b4 b5 b6 b7 w (k0_pay25 e1 e2 e3 z b1 b2 b3 b4 b5 w (k0_pay22 e1 e2 e3 e4 e5 z b1 b2 b3 w (k0_pay19 x0 e1 e2 e3 e4 e5 e6 e7)
      (k0_pay21 x0 e1 e2 e3 e4 e5 e6 b1)) (k0_pay24 e1 b1 b2 b3 b4)) (k0_pay26 z w (k0_pay23 z w (k0_pay20 x0)))
        (k0_pay27 e1 z b1 b2 b3 b4 b5 b6 w) (k0_pay28 w) (ix2 b ⟨t, by omega⟩) = entK Y := by
  have hv : ∀ (s : ℕ) (h : s < 2048), k0_pay18 x0 (ix2 b ⟨s, h⟩) = isByte (X s) := fun s h => by
    pointwise [k0_pay18]; rw [hx, isByte_bits]
  have y0 := hY 0
  have y1 := hY 1
  have y2 := hY 2
  have y3 := hY 3
  have y4 := hY 4
  have y5 := hY 5
  have y6 := hY 6
  have y7 := hY 7
  simp only [Fin.isValue, Fin.val_zero, Fin.val_one, Fin.val_two, Fin.reduceFinMk, Fin.val_ofNat, Nat.reduceMod] at y0 y1 y2 y3 y4 y5 y6 y7
  have c1 : ∑ k, same (Y 1) (Y k) = 1 + same (Y 0) (Y 1) + same (Y 1) (Y 2) + same (Y 1) (Y 3) + same (Y 1) (Y 4) + same (Y 1) (Y 5) + same (Y 1) (Y 6)
      + same (Y 1) (Y 7) := by
    simp only [Fin.sum_univ_eight, same_self, same_comm (Y 1) (Y 0)]; ac_rfl
  have c2 : ∑ k, same (Y 2) (Y k) = 1 + same (Y 1) (Y 2) + same (Y 0) (Y 2) + same (Y 2) (Y 3) + same (Y 2) (Y 4) + same (Y 2) (Y 5) + same (Y 2) (Y 6)
      + same (Y 2) (Y 7) := by
    simp only [Fin.sum_univ_eight, same_self, same_comm (Y 2) (Y 0), same_comm (Y 2) (Y 1)]; ac_rfl
  have c3 : ∑ k, same (Y 3) (Y k) = 1 + same (Y 2) (Y 3) + same (Y 1) (Y 3) + same (Y 0) (Y 3) + same (Y 3) (Y 4) + same (Y 3) (Y 5) + same (Y 3) (Y 6)
      + same (Y 3) (Y 7) := by
    simp only [Fin.sum_univ_eight, same_self, same_comm (Y 3) (Y 0), same_comm (Y 3) (Y 1), same_comm (Y 3) (Y 2)]; ac_rfl
  have c4 : ∑ k, same (Y 4) (Y k) = 1 + same (Y 3) (Y 4) + same (Y 2) (Y 4) + same (Y 1) (Y 4) + same (Y 0) (Y 4) + same (Y 4) (Y 5) + same (Y 4) (Y 6)
      + same (Y 4) (Y 7) := by
    simp only [Fin.sum_univ_eight, same_self, same_comm (Y 4) (Y 0), same_comm (Y 4) (Y 1), same_comm (Y 4) (Y 2), same_comm (Y 4) (Y 3)]; ac_rfl
  have c5 : ∑ k, same (Y 5) (Y k) = 1 + same (Y 4) (Y 5) + same (Y 3) (Y 5) + same (Y 2) (Y 5) + same (Y 1) (Y 5) + same (Y 0) (Y 5) + same (Y 5) (Y 6)
      + same (Y 5) (Y 7) := by
    simp only [Fin.sum_univ_eight, same_self, same_comm (Y 5) (Y 0), same_comm (Y 5) (Y 1), same_comm (Y 5) (Y 2), same_comm (Y 5) (Y 3),
      same_comm (Y 5) (Y 4)]; ac_rfl
  have c6 : ∑ k, same (Y 6) (Y k) = 1 + same (Y 5) (Y 6) + same (Y 4) (Y 6) + same (Y 3) (Y 6) + same (Y 2) (Y 6) + same (Y 1) (Y 6) + same (Y 0) (Y 6)
      + same (Y 6) (Y 7) := by
    simp only [Fin.sum_univ_eight, same_self, same_comm (Y 6) (Y 0), same_comm (Y 6) (Y 1), same_comm (Y 6) (Y 2), same_comm (Y 6) (Y 3),
      same_comm (Y 6) (Y 4), same_comm (Y 6) (Y 5)]; ac_rfl
  have c7 : ∑ k, same (Y 7) (Y k) = 1 + same (Y 6) (Y 7) + same (Y 5) (Y 7) + same (Y 4) (Y 7) + same (Y 3) (Y 7) + same (Y 2) (Y 7) + same (Y 1) (Y 7)
      + same (Y 0) (Y 7) := by
    simp only [Fin.sum_univ_eight, same_self, same_comm (Y 7) (Y 0), same_comm (Y 7) (Y 1), same_comm (Y 7) (Y 2), same_comm (Y 7) (Y 3),
      same_comm (Y 7) (Y 4), same_comm (Y 7) (Y 5), same_comm (Y 7) (Y 6)]; ac_rfl
  have t0 : k0_pay19 x0 e1 e2 e3 e4 e5 e6 e7 (ix2 b ⟨t, by omega⟩) = share Y 0 := by
    pointwise [k0_pay19]
    simp (disch := omega) only [hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos, share, Fin.sum_univ_eight, same_self]
  have t1 : k0_pay21 x0 e1 e2 e3 e4 e5 e6 b1 (ix2 b ⟨t, by omega⟩) = share Y 1 := by
    pointwise [k0_pay21]
    simp (disch := omega) only [hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos, share, c1]
  have t3 : k0_pay22 e1 e2 e3 e4 e5 z b1 b2 b3 w (k0_pay19 x0 e1 e2 e3 e4 e5 e6 e7) (k0_pay21 x0 e1 e2 e3 e4 e5 e6 b1) (ix2 b ⟨t, by omega⟩) =
      share Y 0 + share Y 1 + share Y 2 + share Y 3 := by
    pointwise [k0_pay22]
    simp (disch := omega) only [t0, t1, hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos, share, c2, c3]
  have t4 : k0_pay24 e1 b1 b2 b3 b4 (ix2 b ⟨4 + t, by omega⟩) = 1 + same (Y 3) (Y 4) + same (Y 2) (Y 4) + same (Y 1) (Y 4) + same (Y 0) (Y 4) + same (Y 4) (Y 5) := by
    pointwise [k0_pay24]
    simp (disch := omega) only [hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos]
  have t5 : k0_pay25 e1 e2 e3 z b1 b2 b3 b4 b5 w (k0_pay22 e1 e2 e3 e4 e5 z b1 b2 b3 w (k0_pay19 x0 e1 e2 e3 e4 e5 e6 e7)
      (k0_pay21 x0 e1 e2 e3 e4 e5 e6 b1)) (k0_pay24 e1 b1 b2 b3 b4) (ix2 b ⟨t, by omega⟩) =
      share Y 0 + share Y 1 + share Y 2 + share Y 3 + share Y 4 + share Y 5 := by
    pointwise [k0_pay25]
    simp (disch := omega) only [t3, t4, hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos, share, c4, c5]
  have t6 : k0_pay27 e1 z b1 b2 b3 b4 b5 b6 w (ix2 b ⟨t, by omega⟩) = share Y 6 := by
    pointwise [k0_pay27]
    simp (disch := omega) only [hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos, share, c6]
  have n3 : k0_pay23 z w (k0_pay20 x0) (ix2 b ⟨t, by omega⟩) = isByte (Y 0) + isByte (Y 1) + isByte (Y 2) + isByte (Y 3) := by
    pointwise [k0_pay23, k0_pay20]
    simp (disch := omega) only [hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos]
  have n5 : k0_pay26 z w (k0_pay23 z w (k0_pay20 x0)) (ix2 b ⟨t, by omega⟩) =
      isByte (Y 0) + isByte (Y 1) + isByte (Y 2) + isByte (Y 3) + isByte (Y 4) + isByte (Y 5) := by
    pointwise [k0_pay26]
    rw [n3]
    simp (disch := omega) only [hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos]
  have n6 : k0_pay28 w (ix2 b ⟨t, by omega⟩) = isByte (Y 6) := by
    pointwise [k0_pay28]
    simp (disch := omega) only [hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos]
  pointwise [k0_pay1]
  rw [t5, n5, t6, keep_bits t (by omega), decide_eq_true ht]
  have s7 : share Y 7 = isByte (Y 7) * (Ideal.log (1 + same (Y 6) (Y 7) + same (Y 5) (Y 7) + same (Y 4) (Y 7) + same (Y 3) (Y 7) + same (Y 2) (Y 7)
      + same (Y 1) (Y 7) + same (Y 0) (Y 7)) * log2e) := by rw [share, c7]
  rw [entK, Fin.sum_univ_eight, Fin.sum_univ_eight, s7]
  simp (disch := omega) only [n6, hv, hw, h1 _ _ _, h2 _ _ _, h3 _ _ _, h4 _ _ _, h5 _ _ _, h6 _ _ _, h7 _ _ _, g1 _ _ _, g2 _ _ _, g3 _ _ _, g4 _ _ _, g5 _ _ _, g6 _ _ _, g7 _ _ _, y0, y1, y2, y3, y4, y5, y6, y7, log2e_eq, dif_pos]
  rfl

/-- Past the last whole window the kernel stores zero. -/
theorem past (t : ℕ) (ht : t < 2048) (h : 2040 < t) (s n g : FVec Ideal S4x2048 .f32) (g' : FVec Ideal S4x2042 .f32) :
    k0_pay1 z b1 b2 b3 b4 b5 b6 b7 w s n g g' (ix2 b ⟨t, ht⟩) = 0 := by
  pointwise [k0_pay1]
  rw [keep_bits t ht, decide_eq_false (by omega)]
  rfl

/-- The entropy feature of position `t` in a row of tokens, as the kernel computes it. -/
def featK (x : Fin 2048 → Fin 258) (t : Fin 2048) : EReal :=
  if h : (t : ℕ) ≤ 2040 then entK (fun k => x ⟨t + k, by omega⟩) else 0

/-- What the entropy kernel stores. -/
theorem out_ent (x : Fin 4 → Fin 2048 → Fin 258) (hx : x0 = fun i => BitVec.ofNat 32 (x (i 0) (i 1))) (t : Fin 2048) :
    out0_1 x0 (ix2 b t) = featK (x b) t := by
  unfold_out out0_1
  canon_tiles i hi
  idx_vars i
  obtain rfl : b = i0 := Fin.ext hi0
  obtain rfl : t = i1 := Fin.ext hi1
  obtain ⟨t, ht⟩ := t
  have hld : View.ld x0 r0_0 = x0 := by funext i; idx_vars i; pointwise []
  simp only [hld]
  by_cases h : t ≤ 2040
  · let X : ℕ → Fin 258 := fun s => if h : s < 2048 then x b ⟨s, h⟩ else 0
    have hX : ∀ (s : ℕ) (h : s < 2048), x0 (ix2 b ⟨s, h⟩) = BitVec.ofNat 32 (X s) := fun s h => by
      simp only [hx, X, dif_pos h]; rfl
    obtain ⟨a1, a2, a3, a4, a5, a6, a7⟩ := ahead x0 b X hX
    obtain ⟨d1, d2, d3, d4, d5, d6, d7⟩ := behind x0 k0_pay10 _ _ _ _ _ b X a1 a2 a3 a4 a5 a6 a7
    refine (terms x0 _ _ _ _ _ _ _ _ _ _ _ _ _ _ _ _ b X t h (fun k => x b ⟨t + k, by omega⟩) (fun k a ha => ?_) hX (fun s hs => ?_)
      a1 a2 a3 a4 a5 a6 a7 d1 d2 d3 d4 d5 d6 d7).trans ?_
    · subst ha; simp only [X]; rw [dif_pos (by omega)]
    · pointwise [k0_pay18]; rw [hX, isByte_bits]
    · simp only [featK, dif_pos h]
  · refine (past _ _ _ _ _ _ _ _ _ b t ht (by omega) _ _ _ _).trans ?_
    simp only [featK, dif_neg h]
end

section
variable (V : (c : Dev nD) → (b : Ref sig .tc) → Buf (Elt Ideal) ((c : Thread nD τ).loc b))

/-- The entropy kernel's one block is the whole array. -/
theorem idx0 : ∀ t : Fin cfg0.N, win0_0.index t = ![0, 0] ∧ win0_1.index t = ![0, 0] :=
  (by decide +kernel : ∀ t : Fin grid0.N, _)

/-- The entropy kernel's array: the feature of every position. -/
theorem final0 (c : Dev nD) (x : Fin 4 → Fin 2048 → Fin 258)
    (hx : (V c main_arg16 : IVec S4x2048 32) = fun i => BitVec.ofNat 32 (x (i 0) (i 1))) :
    (dat0 V c).arrAt 1 cfg0.N = (fun i : S4x2048.Idx => featK (x (i 0)) (i 1)) := by
  refine (dat0 V c).arrAt_eq_of_covers 1 _ (by decide +kernel) fun t hf y => ?_
  obtain ⟨e0, e1⟩ := idx0 t
  blk_simp
  rw [after0_1]
  have hblk : (iblk0 V c 0 t : Vec Ideal S4x2048 .i32) = fun i => BitVec.ofNat 32 (x (i 0) (i 1)) := by
    funext i
    blk_simp [iblk0]
    refine (congrFun hx _).trans (at2 (fun a r => BitVec.ofNat 32 (x a r)) ?_ ?_) <;> blk_simp [e0]
  have hy : y = ix2 (y 0) (y 1) := by blk_ext
  refine (congrArg (out0_1 (iblk0 V c 0 t)) hy).trans ((out_ent _ _ x hblk (y 1)).trans (at2 (fun a r => featK (x a) r) ?_ ?_)) <;> blk_simp [e1]
end
end Cert.Proof
end
-- ==== Proof.Fold.lean ====
/- The kernels one after another: what the last one leaves, from the argument arrays. -/
module

public import proofs.«01_k».proof.Proof.Model
public import proofs.«01_k».proof.Proof.Post5
public import proofs.«01_k».proof.Proof.Post7
public import proofs.«01_k».proof.Proof.Post9
public import proofs.«01_k».proof.Proof.Entropy
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Proof
open Idealize.ShloMosaic Idealize.ShloMosaic.TcCoe Idealize.SL.Sem
open Cert.KernelIdeal Cert.KernelIdeal.Gen
open Cert.Model (Layer Inputs)

variable (m : (ℓ : Loc nD τ sig) → Buf (Elt Ideal) ℓ) (ρ : Dev nD → PrngReg) (c : Dev nD)

/-- The argument array behind a reference, as the run finds it. -/
abbrev arg (r : Ref sig .tc) : Buf (Elt Ideal) ((c : Thread nD τ).loc r) := m ((c : Thread nD τ).loc r)

/-- What a run reads, off its argument arrays. -/
def inputs : Inputs where
  emb v d := (arg m c main_arg0 : FVec Ideal S258x512 .f32) (ix2 v d)
  ew d := (arg m c main_arg1 : FVec Ideal S512x1 .f32) (ix2 d 0)
  eb d := (arg m c main_arg2 : FVec Ideal S512 .f32) (ix1 d)
  P l :=
    { qw := fun j d => (arg m c main_arg3 : FVec Ideal S4x1536x512 .f32) (ix3 l j d)
      qb := fun j => (arg m c main_arg4 : FVec Ideal S4x1536 .f32) (ix2 l j)
      aw := fun j d => (arg m c main_arg5 : FVec Ideal S4x512x512 .f32) (ix3 l j d)
      ab := fun j => (arg m c main_arg6 : FVec Ideal S4x512 .f32) (ix2 l j)
      s1 := fun j => (arg m c main_arg7 : FVec Ideal S4x512 .f32) (ix2 l j)
      b1 := fun j => (arg m c main_arg8 : FVec Ideal S4x512 .f32) (ix2 l j)
      s2 := fun j => (arg m c main_arg9 : FVec Ideal S4x512 .f32) (ix2 l j)
      b2 := fun j => (arg m c main_arg10 : FVec Ideal S4x512 .f32) (ix2 l j)
      w1 := fun j d => (arg m c main_arg11 : FVec Ideal S4x2048x512 .f32) (ix3 l j d)
      c1 := fun j => (arg m c main_arg12 : FVec Ideal S4x2048 .f32) (ix2 l j)
      w2 := fun j d => (arg m c main_arg13 : FVec Ideal S4x512x2048 .f32) (ix3 l j d)
      c2 := fun j => (arg m c main_arg14 : FVec Ideal S4x512 .f32) (ix2 l j) }
  ow v d := (arg m c main_arg15 : FVec Ideal S258x512 .f32) (ix2 v d)
  x b t := ⟨((arg m c main_arg16 : IVec S4x2048 32) (ix2 b t)).toNat % 258, Nat.mod_lt _ (by omega)⟩

/-- The tokens are words below 258. -/
def TokensIn : Prop := ∀ i, ((arg m c main_arg16 : IVec S4x2048 32) i).toNat < 258

variable {m c} in
/-- The token array is the words of the tokens read. -/
theorem TokensIn.eq (h : TokensIn m c) :
    (arg m c main_arg16 : IVec S4x2048 32) = fun i => BitVec.ofNat 32 ((inputs m c).x (i 0) (i 1)) := by
  funext i
  have := h i
  idx_vars i
  simp only [inputs]
  rw [Nat.mod_eq_of_lt (h _)]
  simp

/-- The host's reshapes and casts lay the parameters out for the kernels. -/
theorem params2 : Params (V2 m ρ) c (inputs m c).P := by
  constructor <;>
  · unfold_abbrev_sides
    after_results
    rw [W1_of m ρ c _ (by decide)]
    funext i
    idx_vars i
    pointwise [inputs]

/-- The host lays the tokens, the features and the entropy weights out for the embedding kernel. -/
theorem starts2 (hx : TokensIn m c) :
    Starts (V2 m ρ) c (inputs m c).emb (inputs m c).ew (inputs m c).eb (inputs m c).x
      (fun b t => featK ((inputs m c).x b) t) := by
  have h0 : W1 m ρ c main_v0 = _ :=
    (W1_arr m ρ c 1).trans (final0 (V0 m ρ) c (inputs m c).x hx.eq)
  have h16 : W1 m ρ c main_arg16 = _ := (W1_of m ρ c main_arg16 (by decide)).trans hx.eq
  constructor
  · unfold_abbrev_sides
    after_results
    rw [show W1 m ρ c (Proc.tc.devRef main_arg16) = _ from h16]
    funext i
    idx_vars i
    pointwise
  · unfold_abbrev_sides
    after_results
    rw [show W1 m ρ c (Proc.tc.devRef main_v0) = _ from h0]
    funext i
    idx_vars i
    pointwise
  · rw [show V2 m ρ c main_arg0 = _ from (W2_of m ρ c main_arg0 (by decide)).trans (W1_of m ρ c _ (by decide))]
    funext i
    idx_vars i
    pointwise [inputs]
  · unfold_abbrev_sides
    after_results
    rw [W1_of m ρ c _ (by decide)]
    funext i
    idx_vars i
    pointwise [inputs]
  · unfold_abbrev_sides
    after_results
    rw [W1_of m ρ c _ (by decide)]
    funext i
    idx_vars i
    pointwise [inputs]

/-- A parameter buffer that no kernel writes keeps its contents to the last kernel. -/
theorem Params.congr {V V' : (c : Dev nD) → (b : Ref sig .tc) → Buf (Elt Ideal) ((c : Thread nD τ).loc b)} {c : Dev nD}
    {P : Fin 4 → Layer} (h : Params V c P)
    (e : ∀ r ∈ [main_v5, main_v6, main_v7, main_v8, main_v9, main_v10, main_v11, main_v12, main_v13, main_v14, main_v15, main_v16],
      V' c r = V c r) : Params V' c P := by
  simp only [List.forall_mem_cons] at e
  obtain ⟨e1, e2, e3, e4, e5, e6, e7, e8, e9, e10, e11, e12, -⟩ := e
  exact ⟨e1.trans h.s1, e2.trans h.b1, e3.trans h.qb, e4.trans h.ab, e5.trans h.s2, e6.trans h.b2, e7.trans h.c1, e8.trans h.c2,
    e9.trans h.qw, e10.trans h.aw, e11.trans h.w1, e12.trans h.w2⟩

/-- The parameters at the kernel after the first attention. -/
theorem params4 : Params (V4 m ρ) c (inputs m c).P :=
  (params2 m ρ c).congr fun r hr => by
    refine (W4_of m ρ c r ?_).trans (W3_of m ρ c r ?_) <;> revert r <;> decide

/-- The same at the kernel after the second attention. -/
theorem params6 : Params (V6 m ρ) c (inputs m c).P :=
  (params4 m ρ c).congr fun r hr => by
    refine (W6_of m ρ c r ?_).trans (W5_of m ρ c r ?_) <;> revert r <;> decide

/-- The same at the kernel after the third attention. -/
theorem params8 : Params (V8 m ρ) c (inputs m c).P :=
  (params6 m ρ c).congr fun r hr => by
    refine (W8_of m ρ c r ?_).trans (W7_of m ρ c r ?_) <;> revert r <;> decide

/-- The same at the last kernel. -/
theorem params10 : Params (V10 m ρ) c (inputs m c).P :=
  (params8 m ρ c).congr fun r hr => by
    refine (W10_of m ρ c r ?_).trans (W9_of m ρ c r ?_) <;> revert r <;> decide

/-- The host's cast of the output table. -/
theorem table2 : (V2 m ρ c main_v17 : FVec Ideal S258x512 .bf16) = fun i => (inputs m c).ow (i 0) (i 1) := by
  unfold_abbrev_sides
  after_results
  rw [W1_of m ρ c _ (by decide)]
  funext i
  idx_vars i
  pointwise [inputs]

/-- The output table at the last kernel. -/
theorem table10 : (V10 m ρ c main_v17 : FVec Ideal S258x512 .bf16) = fun i => (inputs m c).ow (i 0) (i 1) :=
  (W10_of m ρ c _ (by decide)).trans <| (W9_of m ρ c _ (by decide)).trans <| (W8_of m ρ c _ (by decide)).trans <|
  (W7_of m ρ c _ (by decide)).trans <| (W6_of m ρ c _ (by decide)).trans <| (W5_of m ρ c _ (by decide)).trans <|
  (W4_of m ρ c _ (by decide)).trans <| (W3_of m ρ c _ (by decide)).trans (table2 m ρ c)

/-- The rows after `n` layers. -/
def hid (I : Inputs) : ℕ → Fin 4 → Fin 2048 → Fin 512 → EReal
  | 0 => Model.rows0 I featK
  | n + 1 => fun b => Model.layer (I.P (Fin.ofNat 4 n)) (hid I n b)

/-- The attention output a layer adds to its rows. -/
def att (P : Layer) (h : Fin 4 → Fin 2048 → Fin 512 → EReal) (b : Fin 4) (t : Fin 2048) (d : Fin 512) : EReal :=
  Model.attn (fun n => Model.qkv P (h b n)) t d

/-- The last kernel leaves the logits. -/
theorem logits11 (hx : TokensIn m c) :
    (W11 m ρ c main_v26 : FVec Ideal S4x2048x258 .f32) = fun i => Model.logits (inputs m c) featK (i 0) (i 1) (i 2) := by
  let I := inputs m c
  have r1 := (W3_arr m ρ c 9).trans (final1_row (V2 m ρ) c (starts2 m ρ c hx))
  have q1 := (W3_arr m ρ c 10).trans (final1_qkv (V2 m ρ) c I.P (params2 m ρ c) (starts2 m ρ c hx))
  have a2 := (W4_arr m ρ c 3).trans (final2 (V3 m ρ) c (fun b t => Model.qkv (I.P 0) (hid I 0 b t)) q1)
  have h4 := (W4_of m ρ c main_v18_0 (by decide)).trans r1
  have r3 := (W5_arr m ρ c 14).trans (final3_row (V4 m ρ) c I.P (params4 m ρ c) (hid I 0) (att (I.P 0) (hid I 0)) h4 a2)
  have q3 := (W5_arr m ρ c 15).trans (final3_qkv (V4 m ρ) c I.P (params4 m ρ c) (hid I 0) (att (I.P 0) (hid I 0)) h4 a2)
  have a4 := (W6_arr m ρ c 3).trans (final4 (V5 m ρ) c (fun b t => Model.qkv (I.P 1) (hid I 1 b t)) q3)
  have h6 := (W6_of m ρ c main_v20_0 (by decide)).trans r3
  have r5 := (W7_arr m ρ c 14).trans (final5_row (V6 m ρ) c I.P (params6 m ρ c) (hid I 1) (att (I.P 1) (hid I 1)) h6 a4)
  have q5 := (W7_arr m ρ c 15).trans (final5_qkv (V6 m ρ) c I.P (params6 m ρ c) (hid I 1) (att (I.P 1) (hid I 1)) h6 a4)
  have a6 := (W8_arr m ρ c 3).trans (final6 (V7 m ρ) c (fun b t => Model.qkv (I.P 2) (hid I 2 b t)) q5)
  have h8 := (W8_of m ρ c main_v22_0 (by decide)).trans r5
  have r7 := (W9_arr m ρ c 14).trans (final7_row (V8 m ρ) c I.P (params8 m ρ c) (hid I 2) (att (I.P 2) (hid I 2)) h8 a6)
  have q7 := (W9_arr m ρ c 15).trans (final7_qkv (V8 m ρ) c I.P (params8 m ρ c) (hid I 2) (att (I.P 2) (hid I 2)) h8 a6)
  have a8 := (W10_arr m ρ c 3).trans (final8 (V9 m ρ) c (fun b t => Model.qkv (I.P 3) (hid I 3 b t)) q7)
  have h10 := (W10_of m ρ c main_v24_0 (by decide)).trans r7
  exact (W11_arr m ρ c 11).trans
    (final9 (V10 m ρ) c I.P (params10 m ρ c) (hid I 3) (att (I.P 3) (hid I 3)) I.ow h10 a8 (table10 m ρ c))
end Cert.Proof
end
-- ==== Proof.RunK.lean ====
/- The run of the idealized kernel, with what every buffer of the TensorCore holds at its end. -/
module

public import proofs.«01_k».proof.Proof.Fold

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The first resource of the launch, dealt out: the pipelines' cells, and nothing to each device. -/
theorem launch_deal :
    (ownU (initOf (Pipeline.cells cfgs cellOf_inj) (Pipeline.launchToks cfgs cellOf_inj)) : sProp 𝕄) ⊢
      iprop(BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro H
  isplitl [H]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact H
  iempintro

-- unfolding plain definitions in a metavariable's type is needed to unify the launch theorem's conclusion
set_option backward.isDefEq.respectTransparency.types false in
/-- Every fair run of the idealized kernel ends, and at its end every buffer of the TensorCore that belongs to no region
    holds what the fold of the segments says. -/
theorem run_buffers : θ_run defs (onTc (τ := τ) (main (F := Ideal))) ⟨m, fun _ => 0, ρ⟩ (fun r =>
    ∀ c : Dev nD, ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      iapply launch_deal
      iexact Hu)
    (T₀ := fun c => iprop(StableHlo.held (c : Thread nD τ) (Pipeline.ucRefs τ sig) (W0 m ρ c) ∗ R c)) (Tₙ := Tₙ m ρ)
    (hch := by refine ⟨?_, ?_, ?_, ?_, ?_, ?_, ?_, ?_, ?_, ?_, ?_, ?_⟩ <;> exact fun _ => .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ => h)

end Cert.Proof

end
-- ==== Proof.RefFeat.lean ====
/- The reference's entropy feature, as functions of a token row. -/
module

public import proofs.«01_k».proof.Proof.Model

@[expose] public section

noncomputable section

namespace Cert.Model

open Idealize.ShloMosaic

/-- Whether place `s` of a token row holds the byte value `v`, as a number. -/
def hot (x : Fin 2048 → Fin 258) (v : Fin 256) (s : ℕ) : EReal :=
  if h : s < 2048 then if (x ⟨s, h⟩ : ℕ) = v then 1 else 0 else 0

/-- The number of places below `t` that hold the byte value `v`. -/
def below (x : Fin 2048 → Fin 258) (v : Fin 256) (t : ℕ) : EReal := ∑ s ∈ Finset.range t, hot x v s

/-- The count of a byte value in the eight places from `t`, as a difference of running counts. -/
def count (x : Fin 2048 → Fin 258) (t : ℕ) (v : Fin 256) : EReal := below x v (t + 8) - below x v t

/-- The share of a byte value among the eight places from `t`. -/
def freq (x : Fin 2048 → Fin 258) (t : ℕ) (v : Fin 256) : EReal := Ideal.div (count x t v) (Ideal.ofBits .f32 0x41000000#32)

/-- Whether a byte value occurs in the eight places from `t`, as a bit. -/
def occurs (x : Fin 2048 → Fin 258) (t : ℕ) (v : Fin 256) : BitVec 1 := BitVec.ofBool (decide (0 < count x t v))

/-- The share of a byte value if it occurs, and one if not. -/
def safeFreq (x : Fin 2048 → Fin 258) (t : ℕ) (v : Fin 256) : EReal := if 0 < count x t v then freq x t v else 1

/-- Choosing between the share and one by the bit. -/
theorem select_occurs (x : Fin 2048 → Fin 258) (t : ℕ) (v : Fin 256) :
    Scalar.select (occurs x t v) (freq x t v) (1 : EReal) = safeFreq x t v := by
  unfold occurs safeFreq
  by_cases h : 0 < count x t v
  · rw [if_pos h, decide_eq_true h]; rfl
  · rw [if_neg h, decide_eq_false h]; rfl

/-- The reference's entropy of the eight places from `t`, in bits: no term for a byte value that does not occur. -/
def entR (x : Fin 2048 → Fin 258) (t : ℕ) : EReal :=
  -∑ v, freq x t v * Ideal.div (Ideal.log (safeFreq x t v)) (Ideal.log (Ideal.ofBits .f32 0x40000000#32))

/-- The reference's feature row: the entropy where the eight places fit in, zero after that. -/
def featR (x : Fin 2048 → Fin 258) (t : Fin 2048) : EReal := if (t : ℕ) < 2041 then entR x t else 0

/-- The rows after the four layers, with the reference's attention and entropy. -/
def softRows (I : Inputs) (b : Fin 4) : Fin 2048 → Fin 512 → EReal :=
  softLayer (I.P 3) (softLayer (I.P 2) (softLayer (I.P 1) (softLayer (I.P 0) (rows0 I featR b))))

end Cert.Model

end
-- ==== Proof.Reals.lean ====
/- Where every number is a real: the reference's softmax and the kernel's powers of two give the same
   attention, and every layer carries real rows to real rows. -/
module

public import proofs.«01_k».proof.Proof.Model
public import Idealize.ShloMosaic.PureOps.Ideal.Laws

@[expose] public section

noncomputable section

namespace Cert.Model

open Idealize.ShloMosaic

/-! ## Real values -/

/-- The extended real is a real. -/
def IsReal (x : EReal) : Prop := ∃ r : ℝ, x = r

/-- A sum of reals is real. -/
theorem IsReal.add {x y : EReal} : IsReal x → IsReal y → IsReal (x + y)
  | ⟨a, ha⟩, ⟨b, hb⟩ => ⟨a + b, by rw [ha, hb, EReal.coe_add]⟩

/-- A difference of reals is real. -/
theorem IsReal.sub {x y : EReal} : IsReal x → IsReal y → IsReal (x - y)
  | ⟨a, ha⟩, ⟨b, hb⟩ => ⟨a - b, by rw [ha, hb, EReal.coe_sub]⟩

/-- A product of reals is real. -/
theorem IsReal.mul {x y : EReal} : IsReal x → IsReal y → IsReal (x * y)
  | ⟨a, ha⟩, ⟨b, hb⟩ => ⟨a * b, by rw [ha, hb, EReal.coe_mul]⟩

/-- A sum of reals, as a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsReal.sum {ι : Type} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

/-- A quotient of reals, as a real. -/
theorem coe_div (a : ℝ) {b : ℝ} (hb : b ≠ 0) : Ideal.div (a : EReal) (b : EReal) = ((a / b : ℝ) : EReal) := by
  rw [Ideal.div_coe hb, ← EReal.coe_mul, mul_one_div]

/-- The error function of a real is real. -/
theorem IsReal.erf {x : EReal} : IsReal x → IsReal (Ideal.erf x)
  | ⟨a, ha⟩ => ⟨_, by rw [ha]; exact Ideal.erf_coe a⟩

/-! ## The constants -/

/-- The number of features. -/
theorem const_512 : Ideal.ofBits .f32 0x44000000#32 = ((512 : ℝ) : EReal) := by
  simp [Ideal.ofBits, Ideal.ieee, -EReal.coe_mul]; norm_num

/-- The window's length, and the root of the number of features of a head. -/
theorem const_8 : Ideal.ofBits .f32 0x41000000#32 = ((8 : ℝ) : EReal) := by
  simp [Ideal.ofBits, Ideal.ieee, -EReal.coe_mul]; norm_num

/-- The word of 1/2. -/
theorem const_half : Ideal.ofBits .f32 0x3F000000#32 = ((1 / 2 : ℝ) : EReal) := by
  simp [Ideal.ofBits, Ideal.ieee, -EReal.coe_mul]; norm_num

/-- The word of minus infinity. -/
theorem const_inf : Ideal.ofBits .f32 0xFF800000#32 = (⊥ : EReal) := by
  simp [Ideal.ofBits, Ideal.ieee]

/-- The constant added to a variance is positive. -/
theorem const_eps : ∃ e : ℝ, 0 < e ∧ Ideal.ofBits .f32 0x3727C5AC#32 = (e : EReal) := by
  refine ⟨10995116 * (2 ^ 40)⁻¹, by positivity, ?_⟩
  simp [Ideal.ofBits, Ideal.ieee, -EReal.coe_mul]

/-- The rounded root of 1/2 is real. -/
theorem const_root : IsReal (Ideal.ofBits .f32 0x3F3504F3#32) := by
  refine ⟨11863283 * (2 ^ 24)⁻¹, ?_⟩
  simp [Ideal.ofBits, Ideal.ieee, -EReal.coe_mul]

/-! ## Rows of reals -/

/-- The mean of a row of reals. -/
theorem mean_coe (v : Fin 512 → ℝ) : mean (fun x => (v x : EReal)) = (((∑ x, v x) / 512 : ℝ) : EReal) := by
  unfold mean
  rw [coe_sum, const_512, coe_div _ (by norm_num)]

/-- The mean of a real row is real. -/
theorem IsReal.mean {v : Fin 512 → EReal} (h : ∀ x, IsReal (v x)) : IsReal (mean v) := by
  choose g hg using h
  obtain rfl : v = fun x => (g x : EReal) := funext hg
  exact ⟨_, mean_coe g⟩

/-- A normalised row of reals is real: its variance is not negative, and the constant added is positive. -/
theorem IsReal.normed {v : Fin 512 → EReal} (h : ∀ x, IsReal (v x)) (x : Fin 512) : IsReal (normed v x) := by
  have hm : IsReal (Model.mean v) := IsReal.mean h
  refine ((h x).sub hm).mul ?_
  choose g hg using h
  obtain ⟨a, ha⟩ := hm
  obtain ⟨e, he, hc⟩ := const_eps
  have hd : ∀ y, (v y - Model.mean v) * (v y - Model.mean v) = (((g y - a) * (g y - a) : ℝ) : EReal) := fun y => by
    rw [hg y, ha, ← EReal.coe_sub, ← EReal.coe_mul]
  rw [funext hd, mean_coe, hc, ← EReal.coe_add, Ideal.rsqrt_coe]
  have hp : 0 < (∑ y, (g y - a) * (g y - a)) / 512 + e :=
    add_pos_of_nonneg_of_pos (div_nonneg (Finset.sum_nonneg fun y _ => mul_self_nonneg _) (by norm_num)) he
  rw [if_neg (not_lt.2 hp.le), if_neg hp.ne']
  exact ⟨_, rfl⟩

/-- A real row normalised is real. -/
theorem IsReal.lnorm {v s b : Fin 512 → EReal} (h : ∀ x, IsReal (v x)) (hs : ∀ x, IsReal (s x)) (hb : ∀ x, IsReal (b x)) (x : Fin 512) :
    IsReal (lnorm v s b x) :=
  ((IsReal.normed h x).mul (hs x)).add (hb x)

/-- A linear map with real weights gives reals. -/
theorem IsReal.lin {n k : ℕ} {w : Fin n → Fin k → EReal} {b : Fin n → EReal} {v : Fin k → EReal} (hw : ∀ j x, IsReal (w j x))
    (hb : ∀ j, IsReal (b j)) (hv : ∀ x, IsReal (v x)) (j : Fin n) : IsReal (lin w b v j) :=
  (IsReal.sum fun x => (hv x).mul (hw j x)).add (hb j)

/-- The linear unit of a real is real. -/
theorem IsReal.gelu {u : EReal} (h : IsReal u) : IsReal (gelu u) :=
  (IsReal.mul ⟨_, const_half⟩ h).mul (IsReal.add ⟨1, rfl⟩ (h.mul const_root).erf)

/-! ## Attention -/

/-- The greatest of finitely many reals is one of them. -/
theorem greatest (s : Fin 2048 → ℝ) : ∃ M : ℝ, Finset.univ.fold max (⊥ : EReal) (fun m => (s m : EReal)) = M := by
  obtain ⟨m, _, hm⟩ := Finset.exists_mem_eq_sup (Finset.univ : Finset (Fin 2048)) ⟨0, Finset.mem_univ _⟩ (fun m => (s m : EReal))
  exact ⟨s m, hm⟩

/-- Subtracting a number from every score leaves the weights' shares as they are. -/
theorem shift_shares (v s : Fin 2048 → ℝ) (M : ℝ) :
    ∑ m, v m * (Real.exp (s m - M) / ∑ k, Real.exp (s k - M)) = (∑ m, v m * Real.exp (s m)) / ∑ m, Real.exp (s m) := by
  have hM : ∀ m, Real.exp (s m - M) = Real.exp (s m) * Real.exp (-M) := fun m => by rw [sub_eq_add_neg, Real.exp_add]
  have h0 : Real.exp (-M) ≠ 0 := (Real.exp_pos _).ne'
  simp only [hM]
  rw [← Finset.sum_mul, Finset.sum_div]
  refine Finset.sum_congr rfl fun m _ => ?_
  rw [mul_div_mul_right _ _ h0, mul_div_assoc]

/-- A power of two of a score times the folded scale is the exponential of the score over eight. -/
theorem exp2_scaled (r : ℝ) : Ideal.exp2 ((r : EReal) * scale) = ((Real.exp (r / 8) : ℝ) : EReal) := by
  unfold scale
  rw [← EReal.coe_mul, Ideal.exp2_coe]
  congr 1
  change (2 : ℝ) ^ (r * (1 / 8 * (Real.log 2)⁻¹)) = Real.exp (r / 8)
  rw [Real.rpow_def_of_pos (by norm_num)]
  congr 1
  have : Real.log 2 ≠ 0 := (Real.log_pos (by norm_num)).ne'
  field_simp

/-- A sum of exponentials is not zero. -/
theorem sum_exp_ne (s : Fin 2048 → ℝ) : (∑ m, Real.exp (s m)) ≠ 0 :=
  (Finset.sum_pos (fun m _ => Real.exp_pos _) ⟨0, Finset.mem_univ _⟩).ne'

variable {z : Fin 2048 → Fin 1536 → EReal}

/-- The kernel's attention on real rows: the values weighed by the exponentials of the scores. -/
theorem attn_coe (Z : Fin 2048 → Fin 1536 → ℝ) (t : Fin 2048) (d : Fin 512) :
    ∃ s v : Fin 2048 → ℝ, (∀ m, score (fun t j => (Z t j : EReal)) ⟨(d : ℕ) / 64, by omega⟩ t m = (s m : EReal)) ∧
      (∀ m, v m = Z m ⟨1024 + (d : ℕ), by omega⟩) ∧
      attn (fun t j => (Z t j : EReal)) t d = (((∑ m, v m * Real.exp (s m)) / ∑ m, Real.exp (s m) : ℝ) : EReal) := by
  refine ⟨fun m => (∑ e : Fin 64, Z t ⟨(d : ℕ) / 64 * 64 + e, by omega⟩ * Z m ⟨512 + ((d : ℕ) / 64 * 64 + e), by omega⟩) / 8,
    fun m => Z m ⟨1024 + (d : ℕ), by omega⟩, fun m => ?_, fun m => rfl, ?_⟩
  · unfold score
    simp only [← EReal.coe_mul]
    rw [coe_sum, const_8, coe_div _ (by norm_num)]
  · unfold attn head
    have he : ∀ m : Fin 2048, Ideal.exp2 ((∑ e : Fin 64, (Z m ⟨512 + (d : ℕ) / 64 * 64 + e, by omega⟩ : EReal) * (Z t ⟨(d : ℕ) / 64 * 64 + e, by omega⟩ : EReal)) * scale)
        = ((Real.exp ((∑ e : Fin 64, Z t ⟨(d : ℕ) / 64 * 64 + e, by omega⟩ * Z m ⟨512 + ((d : ℕ) / 64 * 64 + e), by omega⟩) / 8) : ℝ) : EReal) := by
      intro m
      simp only [← EReal.coe_mul]
      rw [coe_sum, exp2_scaled]
      refine congrArg (fun r : ℝ => ((Real.exp (r / 8) : ℝ) : EReal)) (Finset.sum_congr rfl fun e _ => ?_)
      rw [mul_comm]
      have hj : (⟨512 + (d : ℕ) / 64 * 64 + e, by omega⟩ : Fin 1536) = ⟨512 + ((d : ℕ) / 64 * 64 + e), by omega⟩ :=
        Fin.ext (Nat.add_assoc _ _ _)
      rw [hj]
    simp only [he]
    simp only [← EReal.coe_mul]
    rw [coe_sum, coe_sum, coe_div _ (sum_exp_ne _)]

/-- On real rows the softmax and the kernel's attention are the same. -/
theorem softAttn_eq (h : ∀ t j, IsReal (z t j)) (t : Fin 2048) (d : Fin 512) : softAttn z t d = attn z t d := by
  choose Z hZ using h
  obtain rfl : z = fun t j => (Z t j : EReal) := funext fun t => funext (hZ t)
  obtain ⟨s, v, hs, hv, ha⟩ := attn_coe Z t d
  obtain ⟨M, hM⟩ := greatest s
  rw [ha]
  unfold softAttn
  have hw : ∀ m, weight (score (fun t j => (Z t j : EReal)) ⟨(d : ℕ) / 64, by omega⟩ t) m = ((Real.exp (s m - M) : ℝ) : EReal) := by
    intro m
    unfold weight
    rw [funext hs, const_inf, hM, max_eq_right bot_le, ← EReal.coe_sub, Ideal.exp_coe]
  simp only [hw, ← hv]
  rw [coe_sum]
  simp only [coe_div _ (sum_exp_ne fun m => s m - M), ← EReal.coe_mul]
  rw [coe_sum, shift_shares]

/-- Attention on real rows is real. -/
theorem IsReal.attn (h : ∀ t j, IsReal (z t j)) (t : Fin 2048) (d : Fin 512) : IsReal (attn z t d) := by
  choose Z hZ using h
  obtain rfl : z = fun t j => (Z t j : EReal) := funext fun t => funext (hZ t)
  obtain ⟨_, _, _, _, ha⟩ := attn_coe Z t d
  exact ⟨_, ha⟩

/-! ## Layers -/

/-- Every parameter of a layer is real. -/
structure Layer.Real (P : Layer) : Prop where
  s1 : ∀ x, IsReal (P.s1 x)
  b1 : ∀ x, IsReal (P.b1 x)
  qw : ∀ j x, IsReal (P.qw j x)
  qb : ∀ j, IsReal (P.qb j)
  aw : ∀ j x, IsReal (P.aw j x)
  ab : ∀ j, IsReal (P.ab j)
  s2 : ∀ x, IsReal (P.s2 x)
  b2 : ∀ x, IsReal (P.b2 x)
  w1 : ∀ j x, IsReal (P.w1 j x)
  c1 : ∀ j, IsReal (P.c1 j)
  w2 : ∀ j x, IsReal (P.w2 j x)
  c2 : ∀ j, IsReal (P.c2 j)

variable {P : Layer} {h : Fin 2048 → Fin 512 → EReal}

/-- The queries, keys and values of a real row are real. -/
theorem IsReal.qkv (hP : P.Real) {v : Fin 512 → EReal} (hv : ∀ x, IsReal (v x)) (j : Fin 1536) : IsReal (qkv P v j) :=
  IsReal.lin hP.qw hP.qb (IsReal.lnorm hv hP.s1 hP.b1) j

/-- A layer carries real rows to real rows. -/
theorem IsReal.layer (hP : P.Real) (hh : ∀ t d, IsReal (h t d)) (t : Fin 2048) (d : Fin 512) : IsReal (layer P h t d) := by
  have ha := IsReal.attn (z := fun m => Model.qkv P (h m)) (fun t j => IsReal.qkv hP (hh t) j) t
  have hg : ∀ d, IsReal (resid P (h t) (Model.attn (fun m => Model.qkv P (h m)) t) d) := fun d =>
    ((hh t d).add (IsReal.sum fun x => (ha x).mul (hP.aw d x))).add (hP.ab d)
  exact (hg d).add (IsReal.lin hP.w2 hP.c2 (fun j => IsReal.gelu (IsReal.lin hP.w1 hP.c1 (IsReal.lnorm hg hP.s2 hP.b2) j)) d)

/-- On real rows the reference's layer and the kernel's are the same. -/
theorem softLayer_eq (hP : P.Real) (hh : ∀ t d, IsReal (h t d)) : softLayer P h = layer P h := by
  funext t
  unfold softLayer Model.layer
  rw [funext fun d => softAttn_eq (z := fun m => Model.qkv P (h m)) (fun t j => IsReal.qkv hP (hh t) j) t d]

end Cert.Model

end
-- ==== Proof.Bits.lean ====
/- The entropy of eight tokens: the kernel's sum over the tokens and the reference's sum over the byte
   values are the same number of bits. -/
module

public import proofs.«01_k».proof.Proof.RefFeat
public import proofs.«01_k».proof.Proof.Reals
public import proofs.«01_k».proof.Proof.Entropy

@[expose] public section

noncomputable section

namespace Cert.Model

open Idealize.ShloMosaic
open Cert.Proof (same isByte log2e share entK featK)

/-- The word of 2. -/
theorem const_two : Ideal.ofBits .f32 0x40000000#32 = ((2 : ℝ) : EReal) := by
  simp [Ideal.ofBits, Ideal.ieee, -EReal.coe_mul]; norm_num

/-- The word of 3/8. -/
theorem const_three_eighths : Ideal.ofBits .f32 0x3EC00000#32 = ((3 / 8 : ℝ) : EReal) := by
  simp [Ideal.ofBits, Ideal.ieee, -EReal.coe_mul]; norm_num

/-- The word of 1/8. -/
theorem const_eighth : Ideal.ofBits .f32 0x3E000000#32 = ((1 / 8 : ℝ) : EReal) := by
  simp [Ideal.ofBits, Ideal.ieee, -EReal.coe_mul]; norm_num

/-- The logarithm of a positive real. -/
theorem log_pos_coe {r : ℝ} (h : 0 < r) : Ideal.log (r : EReal) = ((Real.log r : ℝ) : EReal) := by
  rw [Ideal.log_coe, if_neg (not_le.2 h)]

/-- How many of eight tokens are `u`. -/
def times (y : Fin 8 → Fin 258) (u : ℕ) : ℝ := ∑ k, if (y k : ℕ) = u then 1 else 0

/-- A count is not negative. -/
theorem times_nonneg (y : Fin 8 → Fin 258) (u : ℕ) : 0 ≤ times y u :=
  Finset.sum_nonneg fun k _ => by split <;> norm_num

/-- A token of the window occurs in it. -/
theorem times_pos (y : Fin 8 → Fin 258) (j : Fin 8) : 0 < times y (y j) :=
  Finset.sum_pos' (fun k _ => by split <;> norm_num) ⟨j, Finset.mem_univ j, by rw [if_pos rfl]; norm_num⟩

/-- What one occurrence adds to the entropy if there are `n`. -/
def gain (n : ℝ) : ℝ := 3 / 8 - 1 / 8 * (Real.log n * (Real.log 2)⁻¹)

/-- The entropy in bits, by tokens. -/
def bits (y : Fin 8 → Fin 258) : ℝ := ∑ j, (if (y j : ℕ) < 256 then 1 else 0) * gain (times y (y j))

/-- The logarithm of 2 is not zero. -/
theorem log_two_ne : Real.log 2 ≠ 0 := (Real.log_pos (by norm_num)).ne'

/-- The entropy by byte values. -/
theorem bits_by_value (y : Fin 8 → Fin 258) : bits y = ∑ v : Fin 256, times y v * gain (times y v) := by
  unfold bits
  have e : ∀ v : Fin 256, times y v * gain (times y v) = ∑ j, (if (y j : ℕ) = v then gain (times y (y j)) else 0) := by
    intro v
    conv_lhs => enter [1]; unfold times
    rw [Finset.sum_mul]
    refine Finset.sum_congr rfl fun j _ => ?_
    split
    · next h => rw [h, one_mul]
    · rw [zero_mul]
  rw [Finset.sum_congr rfl fun v _ => e v, Finset.sum_comm]
  refine Finset.sum_congr rfl fun j _ => ?_
  by_cases h : (y j : ℕ) < 256
  · rw [if_pos h, one_mul, Finset.sum_eq_single ⟨y j, h⟩ (fun v _ hv => if_neg fun hh => hv (Fin.ext hh.symm))
      (fun hn => absurd (Finset.mem_univ _) hn), if_pos rfl]
  · rw [if_neg h, zero_mul]
    exact (Finset.sum_eq_zero fun v _ => if_neg fun hh => h (by have := v.isLt; omega)).symm

/-- The kernel's entropy. -/
theorem entK_coe (y : Fin 8 → Fin 258) : entK y = ((bits y : ℝ) : EReal) := by
  have hb : ∀ j, isByte (y j) = (((if (y j : ℕ) < 256 then 1 else 0 : ℝ)) : EReal) := fun j => by
    unfold Cert.Proof.isByte; split <;> rfl
  have hc : ∀ j, ∑ k, same (y j) (y k) = ((times y (y j) : ℝ) : EReal) := fun j => by
    unfold times
    rw [← coe_sum]
    refine Finset.sum_congr rfl fun k _ => ?_
    unfold Cert.Proof.same
    by_cases h : y j = y k
    · rw [if_pos h, if_pos (congrArg _ h.symm)]; rfl
    · rw [if_neg h, if_neg fun hh => h (Fin.ext hh.symm)]; rfl
  unfold Cert.Proof.entK Cert.Proof.share Cert.Proof.log2e
  simp only [hb, hc, log_pos_coe (times_pos y _), ← EReal.coe_mul]
  rw [coe_sum, coe_sum, const_three_eighths, const_eighth, ← EReal.coe_mul, ← EReal.coe_mul, ← EReal.coe_sub]
  congr 1
  unfold bits gain
  rw [Finset.mul_sum, Finset.mul_sum, ← Finset.sum_sub_distrib]
  exact Finset.sum_congr rfl fun j _ => by ring

/-- One place's bit as a real. -/
def hotReal (x : Fin 2048 → Fin 258) (v : Fin 256) (s : ℕ) : ℝ :=
  if h : s < 2048 then if (x ⟨s, h⟩ : ℕ) = v then 1 else 0 else 0

/-- Whether a place holds a byte value is a real number. -/
theorem hot_coe (x : Fin 2048 → Fin 258) (v : Fin 256) (s : ℕ) : hot x v s = ((hotReal x v s : ℝ) : EReal) := by
  unfold hot hotReal
  split
  · split <;> rfl
  · rfl

/-- The difference of running counts is the count in the window. -/
theorem count_coe (x : Fin 2048 → Fin 258) (t : ℕ) (ht : t < 2041) (v : Fin 256) :
    count x t v = ((times (fun k => x ⟨t + k, by omega⟩) v : ℝ) : EReal) := by
  unfold count below
  simp only [hot_coe]
  rw [coe_sum, coe_sum, ← EReal.coe_sub, Finset.sum_range_add, add_sub_cancel_left, Finset.sum_range]
  congr 1
  refine Finset.sum_congr rfl fun k _ => ?_
  unfold hotReal
  rw [dif_pos]

/-- The reference's entropy. -/
theorem entR_coe (x : Fin 2048 → Fin 258) (t : ℕ) (ht : t < 2041) :
    entR x t = ((bits (fun k => x ⟨t + k, by omega⟩) : ℝ) : EReal) := by
  set y : Fin 8 → Fin 258 := fun k => x ⟨t + k, by omega⟩ with hy
  have hc : ∀ v, count x t v = ((times y v : ℝ) : EReal) := count_coe x t ht
  have hf : ∀ v, freq x t v = ((times y v / 8 : ℝ) : EReal) := fun v => by
    unfold freq
    rw [hc, const_8, coe_div _ (by norm_num)]
  have hterm : ∀ v, freq x t v * Ideal.div (Ideal.log (safeFreq x t v)) (Ideal.log (Ideal.ofBits .f32 0x40000000#32)) =
      ((-(times y v * gain (times y v)) : ℝ) : EReal) := by
    intro v
    rw [const_two, log_pos_coe (by norm_num)]
    unfold safeFreq
    rcases (times_nonneg y v).eq_or_lt with h0 | h0
    · rw [if_neg (by rw [hc, ← h0]; exact lt_irrefl _), hf, ← h0]
      rw [show (1 : EReal) = ((1 : ℝ) : EReal) from rfl, log_pos_coe one_pos, coe_div _ log_two_ne, ← EReal.coe_mul]
      simp
    · rw [if_pos (by rw [hc]; exact_mod_cast h0), hf, log_pos_coe (by positivity), coe_div _ log_two_ne, ← EReal.coe_mul]
      congr 1
      rw [Real.log_div h0.ne' (by norm_num), show (8 : ℝ) = 2 ^ 3 by norm_num, Real.log_pow]
      unfold gain
      have := log_two_ne
      push_cast
      field_simp
      ring
  unfold entR
  rw [Finset.sum_congr rfl fun v _ => hterm v, coe_sum, ← EReal.coe_neg, bits_by_value]
  congr 1
  rw [Finset.sum_neg_distrib, neg_neg]

/-- The two entropy features are the same, and real. -/
theorem feat_coe (x : Fin 2048 → Fin 258) (t : Fin 2048) : featR x t = featK x t ∧ IsReal (featK x t) := by
  unfold featR Cert.Proof.featK
  by_cases h : (t : ℕ) < 2041
  · rw [if_pos h, dif_pos (by omega), entR_coe x t h, entK_coe]
    exact ⟨rfl, _, rfl⟩
  · rw [if_neg h, dif_neg (by omega)]
    exact ⟨rfl, 0, rfl⟩

/-- Every number of the inputs that the layers read is real. -/
structure Inputs.Real (I : Inputs) : Prop where
  emb : ∀ v d, IsReal (I.emb v d)
  ew : ∀ d, IsReal (I.ew d)
  eb : ∀ d, IsReal (I.eb d)
  P : ∀ l, (I.P l).Real

/-- The reference's rows are the kernel's. -/
theorem softRows_eq {I : Inputs} (hI : I.Real) (b : Fin 4) : softRows I b = rows I featK b := by
  have h0 : rows0 I featR b = rows0 I featK b := by
    funext t
    unfold rows0
    rw [(feat_coe _ _).1]
  have r0 : ∀ t d, IsReal (rows0 I featK b t d) := fun t d =>
    ((hI.emb _ _).add ((feat_coe _ _).2.mul (hI.ew _))).add (hI.eb _)
  have r1 := IsReal.layer (hI.P 0) r0
  have r2 := IsReal.layer (hI.P 1) r1
  have r3 := IsReal.layer (hI.P 2) r2
  unfold softRows rows
  rw [h0, softLayer_eq (hI.P 0) r0, softLayer_eq (hI.P 1) r1, softLayer_eq (hI.P 2) r2, softLayer_eq (hI.P 3) r3]

end Cert.Model

end
-- ==== Proof.Decode.lean ====
/- What the precondition says: every parameter the layers read is a real number, and every token is below 258. -/
module

public import proofs.«01_k».proof.Defs
public import proofs.«01_k».proof.Proof.Fold
public import proofs.«01_k».proof.Proof.Bits

@[expose] public section

set_option maxRecDepth 16384

noncomputable section

namespace Cert.Proof

open Idealize.ShloMosaic Idealize.ShloMosaic.TcCoe Idealize.SL.Sem
open Cert.KernelIdeal
open Cert.Model (IsReal)

/-- The shape relations of the precondition hold. -/
theorem pre_facts : Cert.Pre_finite_model_and_tokens.Facts :=
  ⟨by decide, by decide, by decide, by decide, by decide, by decide, by decide, by decide, by decide, by decide⟩

/-- An extended real of absolute value below infinity is a real. -/
theorem real_of_abs_lt {x : EReal} (h : max x (-x) < ⊤) : IsReal x := by
  induction x using EReal.rec with
  | bot => exact absurd h (by simp)
  | coe r => exact ⟨r, rfl⟩
  | top => exact absurd h (by simp)

/-- The word of infinity is the greatest extended real. -/
theorem const_top : Ideal.ofBits .f32 0x7F800000#32 = (⊤ : EReal) := by
  simp [Ideal.ofBits, Ideal.ieee]

/-- An array whose comparison with infinity is one everywhere holds reals. -/
theorem real_of_compare {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    IsReal (x i) := by
  have hi : Ideal.cmp .olt (max (x i : EReal) (-(x i : EReal))) (Ideal.ofBits .f32 0x7F800000#32) = 1#1 := congrFun h i
  rw [const_top] at hi
  refine real_of_abs_lt ?_
  by_contra hn
  simp [Ideal.cmp, hn] at hi

/-- A word that is not negative and below 258, both signed, is below 258. -/
theorem token_of_compare (u : BitVec 32) (h0 : IntOp.cmpi .sge u 0#32 = 1#1) (h1 : IntOp.cmpi .slt u 258#32 = 1#1) : u.toNat < 258 := by
  have a0 : (0#32).sle u = true := by
    by_contra hn
    rw [IntOp.cmpi, Bool.eq_false_iff.mpr hn] at h0; exact absurd h0 (by decide)
  have a1 : u.slt 258#32 = true := by
    by_contra hn
    rw [IntOp.cmpi, Bool.eq_false_iff.mpr hn] at h1; exact absurd h1 (by decide)
  simp only [BitVec.sle, BitVec.slt, decide_eq_true_eq, BitVec.toInt_eq_toNat_cond, BitVec.toNat_ofNat] at a0 a1
  have := u.isLt
  split_ifs at a0 a1 <;> norm_num at a0 a1 <;> omega

variable (m : (ℓ : Loc nD τ sig) → Buf (Elt Ideal) ℓ) (c : Dev nD)

/-- The precondition, read. -/
theorem decode (h : Pre_KernelIdeal_finite_model_and_tokens (hPre_finite_model_and_tokens := pre_facts) m) :
    (inputs m c).Real ∧ TokensIn m c := by
  obtain ⟨h0, h1, h2, h3, h4, h5, h6, h7, h8, h9, h10, h11, h12, h13, h14, h15, h16⟩ := h c
  refine ⟨⟨fun v d => real_of_compare _ _ h0 _, fun d => real_of_compare _ _ h1 _, fun d => real_of_compare _ _ h2 _, fun l =>
    { qw := fun j d => real_of_compare _ _ h3 _
      qb := fun j => real_of_compare _ _ h4 _
      aw := fun j d => real_of_compare _ _ h5 _
      ab := fun j => real_of_compare _ _ h6 _
      s1 := fun j => real_of_compare _ _ h7 _
      b1 := fun j => real_of_compare _ _ h8 _
      s2 := fun j => real_of_compare _ _ h9 _
      b2 := fun j => real_of_compare _ _ h10 _
      w1 := fun j d => real_of_compare _ _ h11 _
      c1 := fun j => real_of_compare _ _ h12 _
      w2 := fun j d => real_of_compare _ _ h13 _
      c2 := fun j => real_of_compare _ _ h14 _ }⟩, fun i => ?_⟩
  exact token_of_compare _ (congrFun h15 i) (congrFun h16 i)

end Cert.Proof

end
-- ==== Proof.RefLayer.lean ====
/- One trip of the reference's loop: a layer applied to the rows it carries. -/
module

public import proofs.«01_k».proof.Proof.Model
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Value
open Cert.Model (Layer Inputs)

/-- A row of a stack of four vectors, taken at a start that is in range. -/
theorem slice2 {α : Type} {k : ℕ} (n : Fin 4) (A : (⟨2, ![4, k]⟩ : Shape).Idx → α) (a : Fin 2 → Int)
    (h : Shape.Slices ⟨2, ![4, k]⟩ (fun _ => 0) ⟨2, ![1, k]⟩) (h0 : a 0 = (n : ℕ)) (h1 : a 1 = 0) :
    Host.dynamicSlice ⟨2, ![1, k]⟩ A a h = fun i => A (ix2 n (i 1)) := by
  funext i
  rw [Host.dynamicSlice_apply]
  refine congrArg A (funext fun x => Fin.ext ?_)
  have hi : (i 0 : ℕ) = 0 := Nat.lt_one_iff.mp (i 0).isLt
  match x with
  | 0 => exact (congrArg (· + (i 0 : ℕ)) (Host.clampedStart_of_le h.1 a 0 n h0 (by show (n : ℕ) + 1 ≤ 4; omega))).trans (by rw [hi]; rfl)
  | 1 => exact (congrArg (· + (i 1 : ℕ)) (Host.clampedStart_of_le h.1 a 1 0 h1 (by show 0 + k ≤ k; omega))).trans (Nat.zero_add _)

/-- A matrix of a stack of four, taken at a start that is in range. -/
theorem slice3 {α : Type} {k l : ℕ} (n : Fin 4) (A : (⟨3, ![4, k, l]⟩ : Shape).Idx → α) (a : Fin 3 → Int)
    (h : Shape.Slices ⟨3, ![4, k, l]⟩ (fun _ => 0) ⟨3, ![1, k, l]⟩) (h0 : a 0 = (n : ℕ)) (h1 : a 1 = 0) (h2 : a 2 = 0) :
    Host.dynamicSlice ⟨3, ![1, k, l]⟩ A a h = fun i => A (ix3 n (i 1) (i 2)) := by
  funext i
  rw [Host.dynamicSlice_apply]
  refine congrArg A (funext fun x => Fin.ext ?_)
  have hi : (i 0 : ℕ) = 0 := Nat.lt_one_iff.mp (i 0).isLt
  match x with
  | 0 => exact (congrArg (· + (i 0 : ℕ)) (Host.clampedStart_of_le h.1 a 0 n h0 (by show (n : ℕ) + 1 ≤ 4; omega))).trans (by rw [hi]; rfl)
  | 1 => exact (congrArg (· + (i 1 : ℕ)) (Host.clampedStart_of_le h.1 a 1 0 h1 (by show 0 + k ≤ k; omega))).trans (Nat.zero_add _)
  | 2 => exact (congrArg (· + (i 2 : ℕ)) (Host.clampedStart_of_le h.1 a 2 0 h2 (by show 0 + l ≤ l; omega))).trans (Nat.zero_add _)

/-- The loop counter, read as signed. -/
theorem word_toInt (n : Fin 4) : (BitVec.ofNat 32 n).toInt = (n : ℕ) := by revert n; decide

/-- What the loop carries at trip `n`: the stacked parameters, the counter and the rows. -/
structure Carried (V : Valuation τ sig (Elt Ideal)) (P : Fin 4 → Layer) (n : Fin 4) (h : Fin 4 → Fin 2048 → Fin 512 → EReal) : Prop where
  qw : (V (Proc.devRef .tc main_v40_0) : FVec Ideal S4x1536x512 .f32) = fun i => (P (i 0)).qw (i 1) (i 2)
  qb : (V (Proc.devRef .tc main_v40_1) : FVec Ideal S4x1536 .f32) = fun i => (P (i 0)).qb (i 1)
  aw : (V (Proc.devRef .tc main_v40_2) : FVec Ideal S4x512x512 .f32) = fun i => (P (i 0)).aw (i 1) (i 2)
  ab : (V (Proc.devRef .tc main_v40_3) : FVec Ideal S4x512 .f32) = fun i => (P (i 0)).ab (i 1)
  s1 : (V (Proc.devRef .tc main_v40_4) : FVec Ideal S4x512 .f32) = fun i => (P (i 0)).s1 (i 1)
  b1 : (V (Proc.devRef .tc main_v40_5) : FVec Ideal S4x512 .f32) = fun i => (P (i 0)).b1 (i 1)
  s2 : (V (Proc.devRef .tc main_v40_6) : FVec Ideal S4x512 .f32) = fun i => (P (i 0)).s2 (i 1)
  b2 : (V (Proc.devRef .tc main_v40_7) : FVec Ideal S4x512 .f32) = fun i => (P (i 0)).b2 (i 1)
  w1 : (V (Proc.devRef .tc main_v40_8) : FVec Ideal S4x2048x512 .f32) = fun i => (P (i 0)).w1 (i 1) (i 2)
  c1 : (V (Proc.devRef .tc main_v40_9) : FVec Ideal S4x2048 .f32) = fun i => (P (i 0)).c1 (i 1)
  w2 : (V (Proc.devRef .tc main_v40_10) : FVec Ideal S4x512x2048 .f32) = fun i => (P (i 0)).w2 (i 1) (i 2)
  c2 : (V (Proc.devRef .tc main_v40_11) : FVec Ideal S4x512 .f32) = fun i => (P (i 0)).c2 (i 1)
  ctr : (V (Proc.devRef .tc main_v40_12) : IVec S_ 32) = fun _ => BitVec.ofNat 32 n
  row : (V (Proc.devRef .tc main_v40_13) : FVec Ideal S4x2048x512 .f32) = fun i => h (i 0) (i 1) (i 2)

variable {V : Valuation τ sig (Elt Ideal)} {P : Fin 4 → Layer} {n : Fin 4} {h : Fin 4 → Fin 2048 → Fin 512 → EReal}

/-- The mean of each row. -/
theorem mean1 (hV : Carried V P n h) :
    (res_main_while0b_v58 V : FVec Ideal S4x2048x1 .f32) = fun i => Model.mean (h (i 0) (i 1)) := by
  funext i
  idx_vars i
  unfold res_main_while0b_v58
  rw [hV.row]
  pointwise [Model.mean]

/-- Each row less its mean. -/
theorem cent1 (hV : Carried V P n h) :
    (res_main_while0b_v60 V : FVec Ideal S4x2048x512 .f32) = fun i => h (i 0) (i 1) (i 2) - Model.mean (h (i 0) (i 1)) := by
  funext i
  idx_vars i
  unfold res_main_while0b_v60
  rw [mean1 hV, hV.row]
  pointwise

/-- The queries, keys and values of each row. -/
theorem qkv1 (hV : Carried V P n h) :
    (res_main_while0b_v83 V : FVec Ideal S4x2048x1536 .f32) = fun i => Model.qkv (P n) (h (i 0) (i 1)) (i 2) := by
  funext i
  idx_vars i
  unfold res_main_while0b_v83
  rw [cent1 hV, mean1 hV, hV.row, hV.s1, hV.b1, hV.qw, hV.qb, hV.ctr]
  clean_types
  rw [slice2 n, slice2 n, slice3 n, slice2 n] <;> try first | exact word_toInt n | rfl
  pointwise [Model.qkv, Model.lin, Model.lnorm, Model.normed, Model.mean]

/-- The scores: queries against keys, over 8. -/
theorem scores1 (hV : Carried V P n h) :
    (res_main_while0b_v92 V : FVec Ideal S4x8x2048x2048 .f32) = fun i =>
      Model.score (fun t => Model.qkv (P n) (h (i 0) t)) (i 1) (i 2) (i 3) := by
  funext i
  idx_vars i
  unfold res_main_while0b_v92
  rw [qkv1 hV]
  pointwise [Model.score]

/-- The greatest entry along the last axis. -/
theorem max3 (a : FVec Ideal S4x8x2048x2048 .f32) :
    (Host.reduce FloatOps.maximumf a (constant S_ .f32 0xFF800000#32) reducesTo_S4x8x2048x2048_S4x8x2048_d3 h_S_ : FVec Ideal S4x8x2048 .f32) =
      fun i => Finset.univ.fold max (Ideal.ofBits .f32 0xFF800000#32) (fun x => a (ix4 (i 0) (i 1) (i 2) x)) := by
  funext i
  idx_vars i
  pointwise

/-- The exponentials of the scores less their greatest. -/
theorem exps1 (hV : Carried V P n h) :
    (res_main_while0b_v99 V : FVec Ideal S4x8x2048x2048 .f32) = fun i =>
      Model.weight (Model.score (fun t => Model.qkv (P n) (h (i 0) t)) (i 1) (i 2)) (i 3) := by
  funext i
  idx_vars i
  unfold res_main_while0b_v99
  rw [scores1 hV]
  clean_types
  rw [max3]
  pointwise [Model.weight]

/-- The rows after attention. -/
theorem resid1 (hV : Carried V P n h) :
    (res_main_while0b_v112 V : FVec Ideal S4x2048x512 .f32) = fun i =>
      Model.resid (P n) (h (i 0) (i 1)) (Model.softAttn (fun t => Model.qkv (P n) (h (i 0) t)) (i 1)) (i 2) := by
  funext i
  idx_vars i
  unfold res_main_while0b_v112
  rw [qkv1 hV, exps1 hV, hV.row, hV.aw, hV.ab, hV.ctr]
  clean_types
  rw [slice3 n, slice2 n] <;> try first | exact word_toInt n | rfl
  pointwise [Model.resid, Model.softAttn]

/-- The row after attention, of the rows before it. -/
def mid (P : Fin 4 → Layer) (n : Fin 4) (h : Fin 4 → Fin 2048 → Fin 512 → EReal) (b : Fin 4) (t : Fin 2048) : Fin 512 → EReal :=
  Model.resid (P n) (h b t) (Model.softAttn (fun t => Model.qkv (P n) (h b t)) t)

/-- The row after attention, under its name. -/
theorem resid2 (hV : Carried V P n h) :
    (res_main_while0b_v112 V : FVec Ideal S4x2048x512 .f32) = fun i => mid P n h (i 0) (i 1) (i 2) := resid1 hV

/-- The mean of each row after attention. -/
theorem mean2 (hV : Carried V P n h) :
    (res_main_while0b_v116 V : FVec Ideal S4x2048x1 .f32) = fun i => Model.mean (mid P n h (i 0) (i 1)) := by
  funext i
  idx_vars i
  unfold res_main_while0b_v116
  rw [resid2 hV]
  pointwise [Model.mean]

/-- Each row after attention less its mean. -/
theorem cent2 (hV : Carried V P n h) :
    (res_main_while0b_v118 V : FVec Ideal S4x2048x512 .f32) = fun i => mid P n h (i 0) (i 1) (i 2) - Model.mean (mid P n h (i 0) (i 1)) := by
  funext i
  idx_vars i
  unfold res_main_while0b_v118
  rw [mean2 hV, resid2 hV]
  pointwise

/-- The feed-forward part's first product. -/
theorem up1 (hV : Carried V P n h) :
    (res_main_while0b_v141 V : FVec Ideal S4x2048x2048 .f32) = fun i =>
      Model.lin (P n).w1 (P n).c1 (Model.lnorm (mid P n h (i 0) (i 1)) (P n).s2 (P n).b2) (i 2) := by
  funext i
  idx_vars i
  unfold res_main_while0b_v141
  rw [cent2 hV, mean2 hV, resid2 hV, hV.s2, hV.b2, hV.w1, hV.c1, hV.ctr]
  clean_types
  rw [slice2 n, slice2 n, slice3 n, slice2 n] <;> try first | exact word_toInt n | rfl
  pointwise [Model.lin, Model.lnorm, Model.normed, Model.mean]

/-- The reference's linear unit is the model's. -/
theorem gelu_erfc (u : EReal) :
    Ideal.ofBits .f32 0x3F000000#32 * u * Ideal.erfc (-u * Ideal.ofBits .f32 0x3F3504F3#32) = Model.gelu u := by
  rw [Model.gelu, EReal.neg_mul, Ideal.erfc_neg]

/-- The rows after one trip. -/
theorem step1 (hV : Carried V P n h) :
    (step_main_v40_13 V : FVec Ideal S4x2048x512 .f32) = fun i => Model.softLayer (P n) (h (i 0)) (i 1) (i 2) := by
  funext i
  idx_vars i
  unfold step_main_v40_13
  rw [id_eq]
  rw [up1 hV, resid2 hV, hV.w2, hV.c2, hV.ctr]
  clean_types
  rw [slice3 n, slice2 n] <;> try first | exact word_toInt n | rfl
  pointwise [gelu_erfc]
  rfl
end Cert.Proof
end
-- ==== Proof.RefOps.lean ====
/- The host operations the reference's entropy features and table look-up are made of, entry by entry. -/
module

public import proofs.«01_k».proof.Proof.Model
public import proofs.«01_k».proof.Proof.Gen.ReferenceIdeal.Run
public import Idealize.ShloMosaic.Lib.Claim
public import Idealize.ShloMosaic.Lib.Routing.OpsSet
public import Idealize.ShloMosaic.Lib.Routing.OpsPair
public import Idealize.ShloMosaic.Lib.Tactic.CleanTypes
public import Idealize.ShloMosaic.Lib.Pointwise

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Value
open Cert.Model (Layer Inputs)

/-- A token's row of the table: the gather at an index that is in range. -/
theorem gather_row (x : FVec Ideal S258x512 .f32) (idx : IVec S4x2048x1 32) (b : Fin 4) (t : Fin 2048) (y : Fin 512) (v : Fin 258)
    (hb : idx (ix3 b t (0 : Fin 1)) = BitVec.ofNat 32 v) :
    Host.gather gather_S258x512_S4x2048x1_S4x2048x512_2_0_n_n_0_2_1512 x idx (ix3 b t y) = x (ix2 v y) := by
  set d := gather_S258x512_S4x2048x1_S4x2048x512_2_0_n_n_0_2_1512 with hd
  unfold Host.gather
  refine congrArg x (funext fun a => Fin.ext ?_)
  have hbN : ∀ a', a' ∉ d.operandBatchingDims := fun a' => List.not_mem_nil
  match a with
  | ⟨0, _⟩ =>
    have hk : (0 : Fin 2) ∉ d.sKept := by rw [hd]; decide
    have hm : (0 : Fin 2) ∈ d.startIndexMap := by rw [hd]; decide
    show d.start (ix3 b t y) idx 0 + d.batchCoord (ix3 b t y) 0 + d.offCoord (ix3 b t y) 0 = v.val
    rw [d.batchCoord_eq_zero _ _ (hbN 0), d.offCoord_eq_zero _ _ hk]
    simp only [Nat.add_zero]
    unfold GatherDims.start
    rw [dif_pos hm]
    have hsi : d.siIdx (ix3 b t y) ⟨d.startIndexMap.idxOf 0, List.idxOf_lt_length_iff.2 hm⟩ = ix3 b t (0 : Fin 1) := by
      funext b'
      apply Fin.ext
      match b' with
      | ⟨0, _⟩ => rfl
      | ⟨1, _⟩ => rfl
      | ⟨2, _⟩ => rfl
    have hbl := v.isLt
    rw [hsi, hb, StableHlo.Predicate.toInt_ofNat_small _ (by omega)]
    show min ((v.val : Int)).toNat (258 - 1) = v.val
    omega
  | ⟨1, _⟩ =>
    show d.start (ix3 b t y) idx 1 + d.batchCoord (ix3 b t y) 1 + d.offCoord (ix3 b t y) 1 = y.val
    rw [d.batchCoord_eq_zero _ _ (hbN 1), Nat.add_zero]
    unfold GatherDims.start GatherDims.offCoord
    rw [dif_neg (by rw [hd]; decide), dif_pos (by rw [hd]; decide), Nat.zero_add]
    rfl

/-- Where an entry of the feature's prefix lands: at its own place. -/
theorem lands_prefix (idx : IVec S1 32) (hi : idx (ix1 (0 : Fin 1)) = 0#32) (k0 : Fin 4) (k1 : Fin 2041) (b : Fin 4) (t : Fin 2048) :
    scatter_S4x2048_S1_S4x2041_01_n_1_0.resultIdx? (ix2 k0 k1) idx = some (ix2 b t) ↔ (k0 : ℕ) = b ∧ (k1 : ℕ) = t := by
  set d := scatter_S4x2048_S1_S4x2041_01_n_1_0 with hd
  refine (Routing.resultIdx?_ix2 (R := 4) (C := 2048) d (ix2 k0 k1) idx b t).trans ?_
  have w0 : d.window (ix2 k0 k1) 0 = k0 := rfl
  have w1 : d.window (ix2 k0 k1) 1 = k1 := rfl
  have s0 : d.start (ix2 k0 k1) idx 0 = 0 := by
    unfold ScatterDims.start
    rw [dif_neg (by rw [hd]; decide)]
  have s1 : d.start (ix2 k0 k1) idx 1 = 0 := by
    unfold ScatterDims.start
    have hm : (1 : Fin 2) ∈ d.scatterDimsToOperandDims := by rw [hd]; decide
    rw [dif_pos hm]
    have hsi : d.siIdx (ix2 k0 k1) ⟨d.scatterDimsToOperandDims.idxOf 1, List.idxOf_lt_length_iff.2 hm⟩ = ix1 (0 : Fin 1) := by
      funext b'
      apply Fin.ext
      match b' with
      | ⟨0, _⟩ => rfl
    rw [hsi, hi]
    rfl
  rw [w0, w1, s0, s1]
  omega

/-- Setting the first 2041 entries of a row of zeros. -/
theorem scatter_prefix (x0 : FVec Ideal S4x2048 .f32) (idx : IVec S1 32) (hi : idx (ix1 (0 : Fin 1)) = 0#32)
    (u : FVec Ideal S4x2041 .f32) (b : Fin 4) (t : Fin 2048) :
    Host.scatter scatter_S4x2048_S1_S4x2041_01_n_1_0 (fun _ b => b) x0 idx u (ix2 b t) =
      if h : (t : ℕ) < 2041 then u (ix2 b ⟨t, h⟩) else x0 (ix2 b t) := by
  split
  · next h =>
    refine Routing.scatter_set_hit _ x0 idx u _ _ (fun k hk => ?_) (ix2 b ⟨t, h⟩) ((lands_prefix idx hi b ⟨t, h⟩ b t).2 ⟨rfl, rfl⟩)
    obtain ⟨k0, k1, rfl⟩ : ∃ k0 k1, k = ix2 k0 k1 := ⟨k 0, k 1, eq_ix2 k⟩
    obtain ⟨e0, e1⟩ := (lands_prefix idx hi k0 k1 b t).1 hk
    obtain rfl : k0 = b := Fin.ext e0
    exact congrArg (fun z => u (ix2 k0 z)) (Fin.ext e1)
  · next h =>
    refine Routing.scatter_set_miss _ x0 idx u _ fun k hk => h ?_
    obtain ⟨k0, k1, rfl⟩ : ∃ k0 k1, k = ix2 k0 k1 := ⟨k 0, k 1, eq_ix2 k⟩
    have e1 := ((lands_prefix idx hi k0 k1 b t).1 hk).2
    have := k1.isLt
    omega

/-- A left fold of sums over a shape's positions in order is the sum over its indices. -/
theorem foldl_positions (W : Shape) (f : W.Idx → EReal) :
    (List.finRange W.numel).foldl (fun r n => r + f (W.rowMajor.symm n)) 0 = ∑ p, f p := by
  have h : ∀ (l : List (Fin W.numel)) (a : EReal),
      l.foldl (fun r n => r + f (W.rowMajor.symm n)) a = a + (l.map fun n => f (W.rowMajor.symm n)).sum := by
    intro l
    induction l with
    | nil => intro a; simp
    | cons n l ih => intro a; rw [List.foldl_cons, ih, List.map_cons, List.sum_cons, add_assoc]
  rw [h, zero_add, ← Fin.sum_univ_def]
  exact Equiv.sum_comp W.rowMajor.symm f

/-- A window of one row is its middle coordinate. -/
def windowEquiv (N : ℕ) : Fin N ≃ (⟨3, ![1, N, 1]⟩ : Shape).Idx where
  toFun k := ix3 (0 : Fin 1) k (0 : Fin 1)
  invFun p := p 1
  left_inv _ := rfl
  right_inv p := by
    have h0 : p 0 = (0 : Fin 1) := Subsingleton.elim (α := Fin 1) _ _
    have h2 : p 2 = (0 : Fin 1) := Subsingleton.elim (α := Fin 1) _ _
    conv_rhs => rw [eq_ix3 p, h0, h2]

/-- The entries a low-padded window reaches from place `t` are those up to `t`. -/
theorem sum_reached (g : ℕ → EReal) {M t : ℕ} (ht : t < M + 1) :
    ∑ k : Fin (M + 1), (if M ≤ t + (k : ℕ) then g (t + k - M) else 0) = ∑ s ∈ Finset.range (t + 1), g s := by
  rw [← Finset.sum_range (fun k => if M ≤ t + k then g (t + k - M) else 0),
    show M + 1 = (M - t) + (t + 1) by omega, Finset.sum_range_add, Finset.sum_eq_zero, zero_add]
  · refine Finset.sum_congr rfl fun k _ => ?_
    rw [if_pos (by omega)]
    congr 1
    omega
  · intro k hk
    rw [Finset.mem_range] at hk
    rw [if_neg (by omega)]

/-- A sum over a window as long as the middle axis, padded low by one less: entry `t` is the sum of the entries up to `t`. -/
theorem window_sum {A M C : ℕ} (x : (⟨3, ![A, M + 1, C]⟩ : Shape).Idx → EReal) (init : S_.Idx → EReal)
    (h : (⟨3, ![A, M + 1, C]⟩ : Shape).ReduceWindows (![1, M + 1, 1] : Fin 3 → ℕ) ![1, 1, 1] ![0, M, 0] ![0, 0, 0] ⟨3, ![A, M + 1, C]⟩)
    (hu : 0 < S_.numel) (hi : init (Shape.Idx.first hu) = 0)
    (g : Fin A → ℕ → Fin C → EReal) (hx : ∀ b (t : Fin (M + 1)) v, x (ix3 b t v) = g b t v) (b : Fin A) (t : Fin (M + 1)) (v : Fin C) :
    Host.reduceWindow (fun r e : EReal => r + e) ![1, M + 1, 1] ![1, 1, 1] ![0, M, 0] ![0, 0, 0] x init h hu (ix3 b t v) =
      ∑ s ∈ Finset.range (t + 1), g b s v := by
  have ht := t.isLt
  unfold Host.reduceWindow
  rw [hi]
  refine Eq.trans (b := (List.finRange (⟨3, ![1, M + 1, 1]⟩ : Shape).numel).foldl (fun r n => r +
    (fun q : (⟨3, ![1, M + 1, 1]⟩ : Shape).Idx => if M ≤ (t : ℕ) + (q 1 : ℕ) then g b ((t : ℕ) + (q 1 : ℕ) - M) v else 0)
      ((⟨3, ![1, M + 1, 1]⟩ : Shape).rowMajor.symm n)) 0) ?_ ?_
  · dsimp only
    congr 1
    funext r n
    have q0 : (((⟨3, ![1, M + 1, 1]⟩ : Shape).rowMajor.symm n 0) : ℕ) = 0 := Nat.lt_one_iff.1 ((⟨3, ![1, M + 1, 1]⟩ : Shape).rowMajor.symm n 0).isLt
    have q1 : (((⟨3, ![1, M + 1, 1]⟩ : Shape).rowMajor.symm n 1) : ℕ) < M + 1 := ((⟨3, ![1, M + 1, 1]⟩ : Shape).rowMajor.symm n 1).isLt
    have q2 : (((⟨3, ![1, M + 1, 1]⟩ : Shape).rowMajor.symm n 2) : ℕ) = 0 := Nat.lt_one_iff.1 ((⟨3, ![1, M + 1, 1]⟩ : Shape).rowMajor.symm n 2).isLt
    congr 1
    by_cases h : M ≤ (t : ℕ) + (((⟨3, ![1, M + 1, 1]⟩ : Shape).rowMajor.symm n 1) : ℕ)
    · rw [if_pos h, dif_pos]
      · rw [← hx b ⟨(t : ℕ) + (((⟨3, ![1, M + 1, 1]⟩ : Shape).rowMajor.symm n 1) : ℕ) - M, by omega⟩ v]
        refine congrArg x (funext fun a => Fin.ext ?_)
        match a with
        | 0 => show (b : ℕ) * 1 + (((⟨3, ![1, M + 1, 1]⟩ : Shape).rowMajor.symm n 0) : ℕ) - 0 = b; omega
        | 1 => show (t : ℕ) * 1 + (((⟨3, ![1, M + 1, 1]⟩ : Shape).rowMajor.symm n 1) : ℕ) - M = t + (((⟨3, ![1, M + 1, 1]⟩ : Shape).rowMajor.symm n 1) : ℕ) - M; omega
        | 2 => show (v : ℕ) * 1 + (((⟨3, ![1, M + 1, 1]⟩ : Shape).rowMajor.symm n 2) : ℕ) - 0 = v; omega
      · intro a
        match a with
        | 0 => exact ⟨Nat.zero_le _, by show (b : ℕ) * 1 + (((⟨3, ![1, M + 1, 1]⟩ : Shape).rowMajor.symm n 0) : ℕ) - 0 < A; omega⟩
        | 1 => exact ⟨by show M ≤ (t : ℕ) * 1 + (((⟨3, ![1, M + 1, 1]⟩ : Shape).rowMajor.symm n 1) : ℕ); omega, by show (t : ℕ) * 1 + (((⟨3, ![1, M + 1, 1]⟩ : Shape).rowMajor.symm n 1) : ℕ) - M < M + 1; omega⟩
        | 2 => exact ⟨Nat.zero_le _, by show (v : ℕ) * 1 + (((⟨3, ![1, M + 1, 1]⟩ : Shape).rowMajor.symm n 2) : ℕ) - 0 < C; omega⟩
    · rw [if_neg h, dif_neg]
      intro hin
      have h1 : M ≤ (t : ℕ) * 1 + (((⟨3, ![1, M + 1, 1]⟩ : Shape).rowMajor.symm n 1) : ℕ) := (hin 1).1
      omega
  · refine (foldl_positions ⟨3, ![1, M + 1, 1]⟩ (fun q => if M ≤ (t : ℕ) + (q 1 : ℕ) then g b ((t : ℕ) + (q 1 : ℕ) - M) v else 0)).trans ?_
    rw [← Equiv.sum_comp (windowEquiv (M + 1))]
    exact sum_reached (fun s => g b s v) ht

/-- The running sum: entry `t` is the sum of the entries up to `t`. -/
theorem running_sum (x : FVec Ideal S4x2048x256 .f32) (init : FVec Ideal S_ .f32) (hi : init (Shape.Idx.first h_S_) = (0 : EReal))
    (g : Fin 4 → ℕ → Fin 256 → EReal) (hx : ∀ (b : Fin 4) (t : Fin 2048) (v : Fin 256), x (ix3 b t v) = g b t v) (b : Fin 4) (t : Fin 2048) (v : Fin 256) :
    Host.reduceWindowAdd ![1, 2048, 1] ![1, 1, 1] ![0, 2047, 0] ![0, 0, 0] x init
      reduceWindows_S4x2048x256_S4x2048x256_w1s1p0_0_w2048s1p2047_0_w1s1p0_0 h_S_ (ix3 b t v) =
      ∑ s ∈ Finset.range (t + 1), g b s v := by
  unfold Host.reduceWindowAdd
  rw [Ideal.hostReduceWindowAdd_def]
  unfold Ideal.hostReduceWindowAdd
  have e := window_sum (A := 4) (M := 2047) (C := 256) x (fun _ => init (Shape.Idx.first h_S_))
    reduceWindows_S4x2048x256_S4x2048x256_w1s1p0_0_w2048s1p2047_0_w1s1p0_0 h_S_ hi g hx b t v
  exact e

end Cert.Proof
end
-- ==== Proof.RefEntry.lean ====
/- The reference up to its loop over the layers: the token rows, the entropy features, the first rows. -/
module

public import proofs.«01_k».proof.Proof.RefLayer
public import proofs.«01_k».proof.Proof.RefOps
public import proofs.«01_k».proof.Proof.RefFeat
public import Idealize.ShloMosaic.Lib.Tactic.CleanTypes
public import Idealize.ShloMosaic.Lib.Pointwise
public import Idealize.ShloMosaic.Lib.Claim

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Value
open Cert.Model (Layer Inputs hot below freq entR featR start)

/-- A token id is not negative, so the look-up reads it as it is. -/
theorem select_token (v : Fin 258) :
    Scalar.select (IntOp.cmpi CmpIPredicate.slt (BitVec.ofNat 32 v) 0#32) (IntOp.addi (BitVec.ofNat 32 v) 258#32) (BitVec.ofNat 32 v) =
      BitVec.ofNat 32 v := by
  revert v
  decide +kernel

/-- The comparison of a token with a byte value, as a number. -/
theorem compare_token (u : Fin 258) (v : Fin 256) :
    (FloatOps.uitofp (F := Ideal) .f32 (IntOp.cmpi CmpIPredicate.eq (BitVec.ofNat 32 u) (BitVec.ofNat 32 v)) : EReal) =
      if (u : ℕ) = v then 1 else 0 := by
  have hu := u.isLt
  have hv := v.isLt
  have e : BitVec.ofNat 32 (u : ℕ) = BitVec.ofNat 32 (v : ℕ) ↔ (u : ℕ) = v := by
    rw [← BitVec.toNat_inj, BitVec.toNat_ofNat, BitVec.toNat_ofNat]
    omega
  by_cases h : (u : ℕ) = v
  · rw [if_pos h, e.2 h]
    show (((IntOp.cmpi CmpIPredicate.eq (BitVec.ofNat 32 (v : ℕ)) (BitVec.ofNat 32 (v : ℕ))).toNat : ℝ) : EReal) = 1
    simp [IntOp.cmpi]
  · rw [if_neg h]
    have n : (BitVec.ofNat 32 (u : ℕ) == BitVec.ofNat 32 (v : ℕ)) = false := beq_eq_false_iff_ne.2 fun hh => h (e.1 hh)
    show (((IntOp.cmpi CmpIPredicate.eq (BitVec.ofNat 32 (u : ℕ)) (BitVec.ofNat 32 (v : ℕ))).toNat : ℝ) : EReal) = 0
    simp [IntOp.cmpi, n]

/-- The difference of running counts that the reference reads, with zero before the first place. -/
theorem count_eq (y : Fin 2048 → Fin 258) (v : Fin 256) (t : ℕ) :
    ((if _ : 8 + t < 1 then (0 : EReal) else below y v (8 + t - 1 + 1)) - if _ : t < 1 then (0 : EReal) else below y v (t - 1 + 1)) = Model.count y t v := by
  rw [dif_neg (by omega), show 8 + t - 1 + 1 = t + 8 by omega]
  unfold Model.count
  split
  · rw [show t = 0 by omega]; simp [below]
  · rw [show t - 1 + 1 = t by omega]

variable (X : Valuation τ sig (Elt Ideal)) (x : Fin 4 → Fin 2048 → Fin 258)

/-- The token rows looked up in the embedding table. -/
theorem gather_stretch (e : Fin 258 → Fin 512 → EReal)
    (h6 : (X (Proc.devRef .tc main_arg16) : IVec S4x2048 32) = fun i => BitVec.ofNat 32 (x (i 0) (i 1)))
    (h0 : (X (Proc.devRef .tc main_arg0) : FVec Ideal S258x512 .f32) = fun i => e (i 0) (i 1)) :
    (StableHlo.after hostOps0 X (Proc.devRef .tc main_v6) : FVec Ideal S4x2048x512 .f32) = fun i => e (x (i 0) (i 1)) (i 2) := by
  unfold_abbrev_sides
  after_results
  rw [h6, h0]
  funext i
  idx_vars i
  clean_types
  refine gather_row _ _ i0 i1 i2 (x i0 i1) ?_
  pointwise
  exact select_token _

/-- The one-hot rows of the byte values. -/
theorem hot_stretch
    (h6 : (X (Proc.devRef .tc main_arg16) : IVec S4x2048 32) = fun i => BitVec.ofNat 32 (x (i 0) (i 1))) :
    (StableHlo.after hostOps0_1 X (Proc.devRef .tc main_v7) : FVec Ideal S4x2048x256 .f32) = fun i => hot (x (i 0)) (i 2) (i 1 : ℕ) := by
  unfold_abbrev_sides
  after_results
  rw [h6]
  simp only [StableHlo.TRef.ofBuf, StableHlo.TRef.toBuf, cast_eq]
  funext i
  idx_vars i
  clean_types
  pointwise
  rw [hot, dif_pos i1.isLt]
  exact compare_token _ _

/-- The running counts of the byte values. -/
theorem cumsum_stretch
    (h7 : (X (Proc.devRef .tc main_v7) : FVec Ideal S4x2048x256 .f32) = fun i => hot (x (i 0)) (i 2) (i 1 : ℕ)) :
    (StableHlo.after hostOps0_2 X (Proc.devRef .tc main_v8) : FVec Ideal S4x2048x256 .f32) = fun i => below (x (i 0)) (i 2) ((i 1 : ℕ) + 1) := by
  unfold_abbrev_sides
  after_results
  rw [h7]
  simp only [StableHlo.TRef.ofBuf, StableHlo.TRef.toBuf, cast_eq]
  funext i
  idx_vars i
  clean_types
  exact running_sum _ _ (show (broadcastInDim S_ ![] bcast_S_S_ (constant (F := Ideal) S_ FTy.f32 0#32) (Shape.Idx.first h_S_) : EReal) = 0 from Ideal.ofBits_zero FTy.f32) (fun b s v => hot (x b) v s) (fun b t v => rfl) i0 i1 i2

/-- The differences of running counts, divided by the constant eight. -/
theorem freq_stretch
    (h8 : (X (Proc.devRef .tc main_v8) : FVec Ideal S4x2048x256 .f32) = fun i => below (x (i 0)) (i 2) ((i 1 : ℕ) + 1)) :
    (StableHlo.after hostOps0_3 X (Proc.devRef .tc main_v16) : FVec Ideal S4x2041x256 .f32) = fun i => freq (x (i 0)) (i 1 : ℕ) (i 2) := by
  unfold_abbrev_sides
  after_results
  rw [h8]
  funext i
  idx_vars i
  clean_types
  pointwise
  rw [count_eq]
  rfl

/-- Whether a byte value occurs. -/
theorem occurs_stretch
    (h8 : (X (Proc.devRef .tc main_v8) : FVec Ideal S4x2048x256 .f32) = fun i => below (x (i 0)) (i 2) ((i 1 : ℕ) + 1)) :
    (StableHlo.after hostOps0_3 X (Proc.devRef .tc main_v18) : IVec S4x2041x256 1) = fun i => Model.occurs (x (i 0)) (i 1 : ℕ) (i 2) := by
  unfold_abbrev_sides
  after_results
  rw [h8]
  funext i
  idx_vars i
  clean_types
  pointwise
  rw [count_eq]
  rfl

/-- The constant one. -/
theorem one_stretch :
    (StableHlo.after hostOps0_3 X (Proc.devRef .tc main_cst_3) : FVec Ideal S_ .f32) = fun _ => Ideal.ofBits .f32 0x3F800000#32 := by
  unfold_abbrev_sides
  after_results
  rfl

/-- The argument of the logarithm. -/
theorem where_stretch
    (h16 : (X (Proc.devRef .tc main_v16) : FVec Ideal S4x2041x256 .f32) = fun i => freq (x (i 0)) (i 1 : ℕ) (i 2))
    (h18 : (X (Proc.devRef .tc main_v18) : IVec S4x2041x256 1) = fun i => Model.occurs (x (i 0)) (i 1 : ℕ) (i 2))
    (h3 : (X (Proc.devRef .tc main_cst_3) : FVec Ideal S_ .f32) = fun _ => Ideal.ofBits .f32 0x3F800000#32) :
    (StableHlo.after hostOps0_4 X (Proc.devRef .tc main_v19) : FVec Ideal S4x2041x256 .f32) =
      fun i => Model.safeFreq (x (i 0)) (i 1 : ℕ) (i 2) := by
  unfold_abbrev_sides
  after_results
  rw [h16, h18, h3]
  simp only [StableHlo.TRef.ofBuf, StableHlo.TRef.toBuf, cast_eq]
  funext i
  idx_vars i
  clean_types
  pointwise
  exact Model.select_occurs (x i0) (i1 : ℕ) i2

/-- The last stretch before the loop adds up the first rows. -/
theorem rows_stretch (e : Fin 4 → Fin 2048 → Fin 512 → EReal) (w b : Fin 512 → EReal)
    (h6 : (X (Proc.devRef .tc main_v6) : FVec Ideal S4x2048x512 .f32) = fun i => e (i 0) (i 1) (i 2))
    (h16 : (X (Proc.devRef .tc main_v16) : FVec Ideal S4x2041x256 .f32) = fun i => freq (x (i 0)) (i 1 : ℕ) (i 2))
    (h19 : (X (Proc.devRef .tc main_v19) : FVec Ideal S4x2041x256 .f32) =
      fun i => Model.safeFreq (x (i 0)) (i 1 : ℕ) (i 2))
    (h1 : (X (Proc.devRef .tc main_arg1) : FVec Ideal S512x1 .f32) = fun i => w (i 0))
    (h2 : (X (Proc.devRef .tc main_arg2) : FVec Ideal S512 .f32) = fun i => b (i 0)) :
    (StableHlo.after hostOps0_5 X (Proc.devRef .tc main_v40_13) : FVec Ideal S4x2048x512 .f32) =
      fun i => e (i 0) (i 1) (i 2) + (featR (x (i 0)) (i 1) * w (i 2) + b (i 2)) := by
  unfold_abbrev_sides
  after_results
  rw [h6, h16, h19, h1, h2]
  funext i
  idx_vars i
  clean_types
  rw [id_eq]
  pointwise
  refine congrArg (fun z : EReal => e i0 i1 i2 + (z * w i2 + b i2)) ?_
  refine (scatter_prefix _ _ rfl _ i0 i1).trans ?_
  unfold featR
  split
  · pointwise
    rfl
  · exact Ideal.ofBits_zero FTy.f32

end Cert.Proof

end
-- ==== Proof.RefValue.lean ====
/- The reference's logits, from inputs that its argument arrays hold. -/
module

public import proofs.«01_k».proof.Proof.RefEntry
public import Idealize.ShloMosaic.Lib.Tactic.CleanTypes
public import Idealize.ShloMosaic.Lib.Pointwise
public import Idealize.ShloMosaic.Lib.Claim

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Value
open Cert.Model (Layer Inputs)
open Idealize.ShloMosaic.StableHlo

variable (m : (ℓ : Loc nD τ sig) → Buf (Elt Ideal) ℓ) (c : Dev nD)

/-- The argument arrays hold the inputs `I`. -/
structure Given (I : Inputs) : Prop where
  emb : (m ((c.tc : Thread nD τ).loc main_arg0) : FVec Ideal S258x512 .f32) = fun i => I.emb (i 0) (i 1)
  ew : (m ((c.tc : Thread nD τ).loc main_arg1) : FVec Ideal S512x1 .f32) = fun i => I.ew (i 0)
  eb : (m ((c.tc : Thread nD τ).loc main_arg2) : FVec Ideal S512 .f32) = fun i => I.eb (i 0)
  qw : (m ((c.tc : Thread nD τ).loc main_arg3) : FVec Ideal S4x1536x512 .f32) = fun i => (I.P (i 0)).qw (i 1) (i 2)
  qb : (m ((c.tc : Thread nD τ).loc main_arg4) : FVec Ideal S4x1536 .f32) = fun i => (I.P (i 0)).qb (i 1)
  aw : (m ((c.tc : Thread nD τ).loc main_arg5) : FVec Ideal S4x512x512 .f32) = fun i => (I.P (i 0)).aw (i 1) (i 2)
  ab : (m ((c.tc : Thread nD τ).loc main_arg6) : FVec Ideal S4x512 .f32) = fun i => (I.P (i 0)).ab (i 1)
  s1 : (m ((c.tc : Thread nD τ).loc main_arg7) : FVec Ideal S4x512 .f32) = fun i => (I.P (i 0)).s1 (i 1)
  b1 : (m ((c.tc : Thread nD τ).loc main_arg8) : FVec Ideal S4x512 .f32) = fun i => (I.P (i 0)).b1 (i 1)
  s2 : (m ((c.tc : Thread nD τ).loc main_arg9) : FVec Ideal S4x512 .f32) = fun i => (I.P (i 0)).s2 (i 1)
  b2 : (m ((c.tc : Thread nD τ).loc main_arg10) : FVec Ideal S4x512 .f32) = fun i => (I.P (i 0)).b2 (i 1)
  w1 : (m ((c.tc : Thread nD τ).loc main_arg11) : FVec Ideal S4x2048x512 .f32) = fun i => (I.P (i 0)).w1 (i 1) (i 2)
  c1 : (m ((c.tc : Thread nD τ).loc main_arg12) : FVec Ideal S4x2048 .f32) = fun i => (I.P (i 0)).c1 (i 1)
  w2 : (m ((c.tc : Thread nD τ).loc main_arg13) : FVec Ideal S4x512x2048 .f32) = fun i => (I.P (i 0)).w2 (i 1) (i 2)
  c2 : (m ((c.tc : Thread nD τ).loc main_arg14) : FVec Ideal S4x512 .f32) = fun i => (I.P (i 0)).c2 (i 1)
  ow : (m ((c.tc : Thread nD τ).loc main_arg15) : FVec Ideal S258x512 .f32) = fun i => I.ow (i 0) (i 1)
  x : (m ((c.tc : Thread nD τ).loc main_arg16) : IVec S4x2048 32) = fun i => BitVec.ofNat 32 (I.x (i 0) (i 1))

variable {I : Inputs}

/-- The loop carries a copy of argument 3. -/
theorem entry_copy0 : entryContents preI m c (Proc.devRef .tc main_v40_0) = m ((c.tc : Thread nD τ).loc main_arg3) := by
  simp only [entryContents, afterL_cons, afterL_nil]
  after_reads_simp
  rfl

/-- The loop carries a copy of argument 4. -/
theorem entry_copy1 : entryContents preI m c (Proc.devRef .tc main_v40_1) = m ((c.tc : Thread nD τ).loc main_arg4) := by
  simp only [entryContents, afterL_cons, afterL_nil]
  after_reads_simp
  rfl

/-- The loop carries a copy of argument 5. -/
theorem entry_copy2 : entryContents preI m c (Proc.devRef .tc main_v40_2) = m ((c.tc : Thread nD τ).loc main_arg5) := by
  simp only [entryContents, afterL_cons, afterL_nil]
  after_reads_simp
  rfl

/-- The loop carries a copy of argument 6. -/
theorem entry_copy3 : entryContents preI m c (Proc.devRef .tc main_v40_3) = m ((c.tc : Thread nD τ).loc main_arg6) := by
  simp only [entryContents, afterL_cons, afterL_nil]
  after_reads_simp
  rfl

/-- The loop carries a copy of argument 7. -/
theorem entry_copy4 : entryContents preI m c (Proc.devRef .tc main_v40_4) = m ((c.tc : Thread nD τ).loc main_arg7) := by
  simp only [entryContents, afterL_cons, afterL_nil]
  after_reads_simp
  rfl

/-- The loop carries a copy of argument 8. -/
theorem entry_copy5 : entryContents preI m c (Proc.devRef .tc main_v40_5) = m ((c.tc : Thread nD τ).loc main_arg8) := by
  simp only [entryContents, afterL_cons, afterL_nil]
  after_reads_simp
  rfl

/-- The loop carries a copy of argument 9. -/
theorem entry_copy6 : entryContents preI m c (Proc.devRef .tc main_v40_6) = m ((c.tc : Thread nD τ).loc main_arg9) := by
  simp only [entryContents, afterL_cons, afterL_nil]
  after_reads_simp
  rfl

/-- The loop carries a copy of argument 10. -/
theorem entry_copy7 : entryContents preI m c (Proc.devRef .tc main_v40_7) = m ((c.tc : Thread nD τ).loc main_arg10) := by
  simp only [entryContents, afterL_cons, afterL_nil]
  after_reads_simp
  rfl

/-- The loop carries a copy of argument 11. -/
theorem entry_copy8 : entryContents preI m c (Proc.devRef .tc main_v40_8) = m ((c.tc : Thread nD τ).loc main_arg11) := by
  simp only [entryContents, afterL_cons, afterL_nil]
  after_reads_simp
  rfl

/-- The loop carries a copy of argument 12. -/
theorem entry_copy9 : entryContents preI m c (Proc.devRef .tc main_v40_9) = m ((c.tc : Thread nD τ).loc main_arg12) := by
  simp only [entryContents, afterL_cons, afterL_nil]
  after_reads_simp
  rfl

/-- The loop carries a copy of argument 13. -/
theorem entry_copy10 : entryContents preI m c (Proc.devRef .tc main_v40_10) = m ((c.tc : Thread nD τ).loc main_arg13) := by
  simp only [entryContents, afterL_cons, afterL_nil]
  after_reads_simp
  rfl

/-- The loop carries a copy of argument 14. -/
theorem entry_copy11 : entryContents preI m c (Proc.devRef .tc main_v40_11) = m ((c.tc : Thread nD τ).loc main_arg14) := by
  simp only [entryContents, afterL_cons, afterL_nil]
  after_reads_simp
  rfl

/-- The rows the loop starts with. -/
theorem entry_rows (hI : Given m c I) :
    (entryContents preI m c (Proc.devRef .tc main_v40_13) : FVec Ideal S4x2048x512 .f32) = fun i => Model.rows0 I Model.featR (i 0) (i 1) (i 2) := by
  simp only [entryContents, afterL_cons, afterL_nil]
  have hb := fun Y h => cumsum_stretch (StableHlo.after hostOps0_1 Y) I.x (hot_stretch Y I.x h)
  refine (rows_stretch _ I.x (fun b t d => I.emb (I.x b t) d) I.ew I.eb ?_ ?_ ?_ ?_ ?_).trans ?_
  · rw [after_of_writes_sub (r := main_v6) hostOps0_4 _ hostOps0_4_writes (by decide +kernel), after_of_writes_sub (r := main_v6) hostOps0_3 _ hostOps0_3_writes (by decide +kernel), after_of_writes_sub (r := main_v6) hostOps0_2 _ hostOps0_2_writes (by decide +kernel), after_of_writes_sub (r := main_v6) hostOps0_1 _ hostOps0_1_writes (by decide +kernel)]
    exact gather_stretch _ I.x I.emb hI.x hI.emb
  · rw [after_of_writes_sub (r := main_v16) hostOps0_4 _ hostOps0_4_writes (by decide +kernel)]
    exact freq_stretch _ I.x (hb _ ((keep_main_arg16_hostOps0 _).trans hI.x))
  · exact where_stretch _ I.x (freq_stretch _ I.x (hb _ ((keep_main_arg16_hostOps0 _).trans hI.x)))
      (occurs_stretch _ I.x (hb _ ((keep_main_arg16_hostOps0 _).trans hI.x))) (one_stretch _)
  · rw [keep_main_arg1_hostOps0_4, keep_main_arg1_hostOps0_3, keep_main_arg1_hostOps0_2, keep_main_arg1_hostOps0_1, keep_main_arg1_hostOps0]
    exact hI.ew
  · rw [keep_main_arg2_hostOps0_4, keep_main_arg2_hostOps0_3, keep_main_arg2_hostOps0_2, keep_main_arg2_hostOps0_1, keep_main_arg2_hostOps0]
    exact hI.eb
  · funext i
    exact (add_assoc _ _ _).symm

/-- What the loop starts with. -/
theorem carried_entry (hI : Given m c I) : Carried (entryContents preI m c) I.P 0 (Model.rows0 I Model.featR) where
  qw := (entry_copy0 m c).trans hI.qw
  qb := (entry_copy1 m c).trans hI.qb
  aw := (entry_copy2 m c).trans hI.aw
  ab := (entry_copy3 m c).trans hI.ab
  s1 := (entry_copy4 m c).trans hI.s1
  b1 := (entry_copy5 m c).trans hI.b1
  s2 := (entry_copy6 m c).trans hI.s2
  b2 := (entry_copy7 m c).trans hI.b2
  w1 := (entry_copy8 m c).trans hI.w1
  c1 := (entry_copy9 m c).trans hI.c1
  w2 := (entry_copy10 m c).trans hI.w2
  c2 := (entry_copy11 m c).trans hI.c2
  ctr := ctr_entry m c
  row := entry_rows m c hI

/-- One trip applies one layer and counts on. -/
theorem Carried.step {V : Valuation τ sig (Elt Ideal)} {P : Fin 4 → Layer} {n n' : Fin 4} {h : Fin 4 → Fin 2048 → Fin 512 → EReal}
    (hV : Carried V P n h) (hn : (n' : ℕ) = n + 1) : Carried (STEP V) P n' (fun b => Model.softLayer (P n) (h b)) where
  qw := (STEP_main_v40_0 V).trans hV.qw
  qb := (STEP_main_v40_1 V).trans hV.qb
  aw := (STEP_main_v40_2 V).trans hV.aw
  ab := (STEP_main_v40_3 V).trans hV.ab
  s1 := (STEP_main_v40_4 V).trans hV.s1
  b1 := (STEP_main_v40_5 V).trans hV.b1
  s2 := (STEP_main_v40_6 V).trans hV.s2
  b2 := (STEP_main_v40_7 V).trans hV.b2
  w1 := (STEP_main_v40_8 V).trans hV.w1
  c1 := (STEP_main_v40_9 V).trans hV.c1
  w2 := (STEP_main_v40_10 V).trans hV.w2
  c2 := (STEP_main_v40_11 V).trans hV.c2
  ctr := by
    rw [STEP_main_v40_12, step_main_v40_12, id_eq, hV.ctr, hn]
    exact funext fun _ => (BitVec.ofNat_add (n : ℕ) 1).symm
  row := (STEP_main_v40_13 V).trans (step1 hV)

/-- The result: the logits of the rows after four trips. -/
theorem logits_ref (hI : Given m c I) :
    (out_main_v42 (STEP^[4] (entryContents preI m c)) : FVec Ideal S4x2048x258 .f32) =
      fun i => ∑ d, Model.softRows I (i 0) (i 1) d * I.ow (i 2) d := by
  have h1 := (carried_entry m c hI).step (n' := 1) rfl
  have h2 := h1.step (n' := 2) rfl
  have h3 := h2.step (n' := 3) rfl
  have hr := (STEP_main_v40_13 _).trans (step1 h3)
  have hw : STEP^[4] (entryContents preI m c) (Proc.devRef .tc main_arg15) = m ((c.tc : Thread nD τ).loc main_arg15) := iter_main_arg15 m c 4
  have hr' : (STEP^[4] (entryContents preI m c) (Proc.devRef .tc main_v40_13) : FVec Ideal S4x2048x512 .f32) =
      fun i => Model.softRows I (i 0) (i 1) (i 2) := hr
  unfold out_main_v42
  rw [hr', hw, hI.ow]
  funext i
  idx_vars i
  clean_types
  pointwise

end Cert.Proof

end
-- ==== Proof.Same.lean ====
/- The reference reads the kernel's inputs: two memories that agree on the arguments hold the same `Inputs`. -/
module

public import proofs.«01_k».proof.Proof.Fold
public import proofs.«01_k».proof.Proof.RefValue

@[expose] public section

set_option maxRecDepth 16384

noncomputable section

namespace Cert.Proof

open Idealize.ShloMosaic Idealize.ShloMosaic.TcCoe Idealize.SL.Sem
open Cert.KernelIdeal (nD τ)

section
variable {α : Type}

/-- A vector is its entries. -/
theorem rows1 {n : ℕ} (A : (⟨1, ![n]⟩ : Shape).Idx → α) : A = fun i => A (ix1 (i 0)) := funext fun i => congrArg A (eq_ix1 i)
/-- A matrix is its entries. -/
theorem rows2 {n k : ℕ} (A : (⟨2, ![n, k]⟩ : Shape).Idx → α) : A = fun i => A (ix2 (i 0) (i 1)) := funext fun i => congrArg A (eq_ix2 i)
/-- A stack of matrices is its entries. -/
theorem rows3 {n k l : ℕ} (A : (⟨3, ![n, k, l]⟩ : Shape).Idx → α) : A = fun i => A (ix3 (i 0) (i 1) (i 2)) :=
  funext fun i => congrArg A (eq_ix3 i)
/-- A matrix of one column is its first column. -/
theorem column {n : ℕ} (A : (⟨2, ![n, 1]⟩ : Shape).Idx → α) : A = fun i => A (ix2 (i 0) 0) := by
  funext i
  rw [show (0 : Fin 1) = i 1 from Subsingleton.elim _ _]
  exact congrArg A (eq_ix2 i)
end

variable (m : (ℓ : Loc nD τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's memory holds the first seventeen arguments of the kernel's. -/
structure SameArgs (c : Dev nD) : Prop where
  a0 : m' ((c.tc : Thread Cert.ReferenceIdeal.nD Cert.ReferenceIdeal.τ).loc Cert.ReferenceIdeal.main_arg0) = m ((c.tc : Thread nD τ).loc Cert.KernelIdeal.main_arg0)
  a1 : m' ((c.tc : Thread Cert.ReferenceIdeal.nD Cert.ReferenceIdeal.τ).loc Cert.ReferenceIdeal.main_arg1) = m ((c.tc : Thread nD τ).loc Cert.KernelIdeal.main_arg1)
  a2 : m' ((c.tc : Thread Cert.ReferenceIdeal.nD Cert.ReferenceIdeal.τ).loc Cert.ReferenceIdeal.main_arg2) = m ((c.tc : Thread nD τ).loc Cert.KernelIdeal.main_arg2)
  a3 : m' ((c.tc : Thread Cert.ReferenceIdeal.nD Cert.ReferenceIdeal.τ).loc Cert.ReferenceIdeal.main_arg3) = m ((c.tc : Thread nD τ).loc Cert.KernelIdeal.main_arg3)
  a4 : m' ((c.tc : Thread Cert.ReferenceIdeal.nD Cert.ReferenceIdeal.τ).loc Cert.ReferenceIdeal.main_arg4) = m ((c.tc : Thread nD τ).loc Cert.KernelIdeal.main_arg4)
  a5 : m' ((c.tc : Thread Cert.ReferenceIdeal.nD Cert.ReferenceIdeal.τ).loc Cert.ReferenceIdeal.main_arg5) = m ((c.tc : Thread nD τ).loc Cert.KernelIdeal.main_arg5)
  a6 : m' ((c.tc : Thread Cert.ReferenceIdeal.nD Cert.ReferenceIdeal.τ).loc Cert.ReferenceIdeal.main_arg6) = m ((c.tc : Thread nD τ).loc Cert.KernelIdeal.main_arg6)
  a7 : m' ((c.tc : Thread Cert.ReferenceIdeal.nD Cert.ReferenceIdeal.τ).loc Cert.ReferenceIdeal.main_arg7) = m ((c.tc : Thread nD τ).loc Cert.KernelIdeal.main_arg7)
  a8 : m' ((c.tc : Thread Cert.ReferenceIdeal.nD Cert.ReferenceIdeal.τ).loc Cert.ReferenceIdeal.main_arg8) = m ((c.tc : Thread nD τ).loc Cert.KernelIdeal.main_arg8)
  a9 : m' ((c.tc : Thread Cert.ReferenceIdeal.nD Cert.ReferenceIdeal.τ).loc Cert.ReferenceIdeal.main_arg9) = m ((c.tc : Thread nD τ).loc Cert.KernelIdeal.main_arg9)
  a10 : m' ((c.tc : Thread Cert.ReferenceIdeal.nD Cert.ReferenceIdeal.τ).loc Cert.ReferenceIdeal.main_arg10) = m ((c.tc : Thread nD τ).loc Cert.KernelIdeal.main_arg10)
  a11 : m' ((c.tc : Thread Cert.ReferenceIdeal.nD Cert.ReferenceIdeal.τ).loc Cert.ReferenceIdeal.main_arg11) = m ((c.tc : Thread nD τ).loc Cert.KernelIdeal.main_arg11)
  a12 : m' ((c.tc : Thread Cert.ReferenceIdeal.nD Cert.ReferenceIdeal.τ).loc Cert.ReferenceIdeal.main_arg12) = m ((c.tc : Thread nD τ).loc Cert.KernelIdeal.main_arg12)
  a13 : m' ((c.tc : Thread Cert.ReferenceIdeal.nD Cert.ReferenceIdeal.τ).loc Cert.ReferenceIdeal.main_arg13) = m ((c.tc : Thread nD τ).loc Cert.KernelIdeal.main_arg13)
  a14 : m' ((c.tc : Thread Cert.ReferenceIdeal.nD Cert.ReferenceIdeal.τ).loc Cert.ReferenceIdeal.main_arg14) = m ((c.tc : Thread nD τ).loc Cert.KernelIdeal.main_arg14)
  a15 : m' ((c.tc : Thread Cert.ReferenceIdeal.nD Cert.ReferenceIdeal.τ).loc Cert.ReferenceIdeal.main_arg15) = m ((c.tc : Thread nD τ).loc Cert.KernelIdeal.main_arg15)
  a16 : m' ((c.tc : Thread Cert.ReferenceIdeal.nD Cert.ReferenceIdeal.τ).loc Cert.ReferenceIdeal.main_arg16) = m ((c.tc : Thread nD τ).loc Cert.KernelIdeal.main_arg16)

/-- The reference finds the kernel's inputs in its argument arrays. -/
theorem given_of_same {c : Dev nD} (h : SameArgs m m' c) (hx : TokensIn m c) : Given m' c (inputs m c) where
  emb := h.a0.trans (rows2 _)
  ew := h.a1.trans (column _)
  eb := h.a2.trans (rows1 _)
  qw := h.a3.trans (rows3 _)
  qb := h.a4.trans (rows2 _)
  aw := h.a5.trans (rows3 _)
  ab := h.a6.trans (rows2 _)
  s1 := h.a7.trans (rows2 _)
  b1 := h.a8.trans (rows2 _)
  s2 := h.a9.trans (rows2 _)
  b2 := h.a10.trans (rows2 _)
  w1 := h.a11.trans (rows3 _)
  c1 := h.a12.trans (rows2 _)
  w2 := h.a13.trans (rows3 _)
  c2 := h.a14.trans (rows2 _)
  ow := h.a15.trans (rows2 _)
  x := h.a16.trans hx.eq

end Cert.Proof

end
-- ==== Proof.lean ====
/- The proof of the certificate's claim: the frames of the kernel as printed, of its idealization and
   of the idealized reference, the idealization's ledger of named constants, and the equality of the
   idealized kernel's and the idealized reference's logits. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Model
public import proofs.«01_k».proof.Proof.Fold
public import proofs.«01_k».proof.Proof.RunK
public import proofs.«01_k».proof.Proof.Decode
public import proofs.«01_k».proof.Proof.Same
public import proofs.«01_k».proof.Proof.RefValue
public import proofs.«01_k».proof.Proof.Bits
public import Idealize.ShloMosaic.Adequacy
public import Idealize.ShloMosaic.Init

@[expose] public section

noncomputable section

namespace Cert.Proof

open Idealize.ShloMosaic Idealize.SL.Sem Cert.Kernel

/-- The kernel as printed runs to its end from every memory, faults nowhere, and leaves its arguments
    and its semaphores as they were. -/
theorem kernel_frame : quiescent_Kernel (hKernel := Cert.Kernel.Gen.facts) :=
  fun m ρ _ => Cert.Kernel.Gen.frame m ρ

/-- The same of the kernel over the extended reals. -/
theorem ideal_frame : quiescent_KernelIdeal (hKernelIdeal := Cert.KernelIdeal.Gen.facts) :=
  fun m ρ _ => Cert.KernelIdeal.Gen.frame m ρ

/-- The same of the reference over the extended reals. -/
theorem reference_frame : quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The two constants the idealization names: `log2e` is `1/log 2`, and `scale_log2e` an eighth of it. -/
theorem ledger : preserves_Kernel_KernelIdeal :=
  ⟨IdealRules.named_const.statement _ "log2e" .f32 0x3FB8AA3B#32 _ rfl,
   IdealRules.named_const.statement _ "scale_log2e" .f32 0x3E38AA3B#32 _ rfl⟩

/-- The kernel over the extended reals, under the precondition of the value claim. -/
theorem ideal_frame_pre : quiescent_KernelIdeal_pre_finite_model_and_tokens (hKernelIdeal := Cert.KernelIdeal.Gen.facts)
    (hPre_finite_model_and_tokens := pre_facts) :=
  fun m ρ _ => Cert.KernelIdeal.Gen.frame m ρ

/-- The reference over the extended reals, under the precondition of the value claim. -/
theorem reference_frame_pre : quiescent_ReferenceIdeal_pre_finite_model_and_tokens (hReferenceIdeal := Cert.ReferenceIdeal.Gen.facts)
    (hPre_finite_model_and_tokens := pre_facts) :=
  fun m ρ _ => reference_frame m ρ trivial

/-- The logits of the model, as an array: what both programs leave. -/
def logitsOf (I : Cert.Model.Inputs) : FVec Ideal ⟨3, ![4, 2048, 258]⟩ .f32 := fun i => Cert.Model.logits I featK (i 0) (i 1) (i 2)

/-- On real parameters the reference's arithmetic gives these logits. -/
theorem logits_of_soft {I : Cert.Model.Inputs} (hI : I.Real) :
    (fun i : (⟨3, ![4, 2048, 258]⟩ : Shape).Idx => ∑ d, Cert.Model.softRows I (i 0) (i 1) d * I.ow (i 2) d) = logitsOf I := by
  funext i
  unfold logitsOf Cert.Model.logits
  exact Finset.sum_congr rfl fun d _ => by rw [Cert.Model.softRows_eq hI (i 0)]

/-- On finite parameters and tokens in range the idealized kernel and the idealized reference leave the same logits,
    entry by entry, in the extended reals; both leave their arguments as they were. -/
theorem same_logits : algebraic_KernelIdeal_ReferenceIdeal_pre_finite_model_and_tokens (hKernelIdeal := Cert.KernelIdeal.Gen.facts)
    (hReferenceIdeal := Cert.ReferenceIdeal.Gen.facts) (hPre_finite_model_and_tokens := pre_facts) := by
  intro m g m' g' hpre hargs
  refine ⟨fun c => logitsOf (inputs m c), ?_, ?_⟩
  · refine (θ_run Cert.KernelIdeal.defs _ _).mono (fun r h c => ?_) (run_buffers m g)
    have hr := h c
    refine ⟨(hr _ (Cert.KernelIdeal.Gen.mem_uc Cert.KernelIdeal.main_v26 (by decide))).trans (logits11 m g c (decode m c hpre).2), ?_⟩
    have ha : ∀ a ∈ Cert.KernelIdeal.Gen.argRefs, ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a h1 h2 => (hr _ (Cert.KernelIdeal.Gen.mem_uc a h2)).trans (Cert.KernelIdeal.Gen.W11_args m g c a h1)
    refine ⟨?_, ?_, ?_, ?_, ?_, ?_, ?_, ?_, ?_, ?_, ?_, ?_, ?_, ?_, ?_, ?_, ?_, ?_⟩ <;> exact ha _ (by decide) (by decide)
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8, h9, h10, h11, h12, h13, h14, h15, h16, -⟩ := hargs c
    have hI : Given m' c (inputs m c) :=
      given_of_same m m' ⟨h0, h1, h2, h3, h4, h5, h6, h7, h8, h9, h10, h11, h12, h13, h14, h15, h16⟩ (decode m c hpre).2
    exact (logits_ref m' c hI).trans (logits_of_soft (decode m c hpre).1)

/-- All the claims together. -/
theorem claim : Cert.Claim :=
  ⟨Cert.Kernel.Gen.facts, Cert.KernelIdeal.Gen.facts, Cert.ReferenceIdeal.Gen.facts, pre_facts,
   kernel_frame, ideal_frame, ideal_frame_pre, reference_frame, reference_frame_pre, ledger, same_logits⟩

end Cert.Proof

end
